-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_n" .f32 0x39430C31#32 ((1 / 5376 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1280 : Shape := ⟨3, ![4, 4096, 1280]⟩
abbrev S4x4096x1 : Shape := ⟨3, ![4, 4096, 1]⟩
abbrev S1280x5376 : Shape := ⟨2, ![1280, 5376]⟩
abbrev S5376 : Shape := ⟨1, ![5376]⟩
abbrev S4x4096x5376 : Shape := ⟨3, ![4, 4096, 5376]⟩
abbrev S16384x1280 : Shape := ⟨2, ![16384, 1280]⟩
abbrev S64x1x256 : Shape := ⟨3, ![64, 1, 256]⟩
abbrev S1x5376 : Shape := ⟨2, ![1, 5376]⟩
abbrev S16384x5376 : Shape := ⟨2, ![16384, 5376]⟩
abbrev S16384x42 : Shape := ⟨2, ![16384, 42]⟩
abbrev S256x1280 : Shape := ⟨2, ![256, 1280]⟩
abbrev S1x1x256 : Shape := ⟨3, ![1, 1, 256]⟩
abbrev S256x5376 : Shape := ⟨2, ![256, 5376]⟩
abbrev S256x42 : Shape := ⟨2, ![256, 42]⟩
abbrev S256x128 : Shape := ⟨2, ![256, 128]⟩
abbrev S16x128 : Shape := ⟨2, ![16, 128]⟩
abbrev S16 : Shape := ⟨1, ![16]⟩
abbrev S16x1 : Shape := ⟨2, ![16, 1]⟩
abbrev S1x1x128 : Shape := ⟨3, ![1, 1, 128]⟩
abbrev S1x128 : Shape := ⟨2, ![1, 128]⟩
abbrev S128x128 : Shape := ⟨2, ![128, 128]⟩
abbrev S1280x256 : Shape := ⟨2, ![1280, 256]⟩
abbrev S256x256 : Shape := ⟨2, ![256, 256]⟩
abbrev S32x128 : Shape := ⟨2, ![32, 128]⟩
abbrev S32 : Shape := ⟨1, ![32]⟩
abbrev S32x1 : Shape := ⟨2, ![32, 1]⟩

abbrev nBuf : Space → Nat
  | .hbm => 14
  | .vmem => 19
  | .smem => 0
  | _ => 0

abbrev bufTy : (tb : Table) → Fin (tcTables nBuf tb) → BufTy
  | .hbm, ⟨0, _⟩ => ⟨S4x4096x1280, .fp8e4m3⟩
  | .hbm, ⟨1, _⟩ => ⟨S4x4096x1, .f32⟩
  | .hbm, ⟨2, _⟩ => ⟨S1280x5376, .fp8e4m3⟩
  | .hbm, ⟨3, _⟩ => ⟨S5376, .f32⟩
  | .hbm, ⟨4, _⟩ => ⟨S4x4096x5376, .bf16⟩
  | .hbm, ⟨5, _⟩ => ⟨S5376, .bf16⟩
  | .hbm, ⟨6, _⟩ => ⟨S16384x1280, .fp8e4m3⟩
  | .hbm, ⟨7, _⟩ => ⟨S64x1x256, .f32⟩
  | .hbm, ⟨8, _⟩ => ⟨S1x5376, .f32⟩
  | .hbm, ⟨9, _⟩ => ⟨S16384x5376, .bf16⟩
  | .hbm, ⟨10, _⟩ => ⟨S1x5376, .bf16⟩
  | .hbm, ⟨11, _⟩ => ⟨S16384x5376, .bf16⟩
  | .hbm, ⟨12, _⟩ => ⟨S16384x5376, .fp8e4m3⟩
  | .hbm, ⟨13, _⟩ => ⟨S16384x42, .f32⟩
  | .local _ .vmem, ⟨0, _⟩ => ⟨S256x1280, .fp8e4m3⟩
  | .local _ .vmem, ⟨1, _⟩ => ⟨S256x1280, .fp8e4m3⟩
  | .local _ .vmem, ⟨2, _⟩ => ⟨S1x1x256, .f32⟩
  | .local _ .vmem, ⟨3, _⟩ => ⟨S1x1x256, .f32⟩
  | .local _ .vmem, ⟨4, _⟩ => ⟨S1280x5376, .fp8e4m3⟩
  | .local _ .vmem, ⟨5, _⟩ => ⟨S1x5376, .f32⟩
  | .local _ .vmem, ⟨6, _⟩ => ⟨S256x5376, .bf16⟩
  | .local _ .vmem, ⟨7, _⟩ => ⟨S256x5376, .bf16⟩
  | .local _ .vmem, ⟨8, _⟩ => ⟨S1x5376, .bf16⟩
  | .local _ .vmem, ⟨9, _⟩ => ⟨S256x5376, .bf16⟩
  | .local _ .vmem, ⟨10, _⟩ => ⟨S256x5376, .bf16⟩
  | .local _ .vmem, ⟨11, _⟩ => ⟨S256x5376, .fp8e4m3⟩
  | .local _ .vmem, ⟨12, _⟩ => ⟨S256x5376, .fp8e4m3⟩
  | .local _ .vmem, ⟨13, _⟩ => ⟨S256x42, .f32⟩
  | .local _ .vmem, ⟨14, _⟩ => ⟨S256x42, .f32⟩
  | .local _ .vmem, ⟨15, _⟩ => ⟨S256x5376, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | _, _ => ⟨S4x4096x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1280 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5376 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5376 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5376 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5376 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x42 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_n" => some ((1 / 5376 : ℝ) : EReal)
  | _ => none
-- ==== ReferenceIdeal.lean ====
abbrev S4x4096x1280 : Shape := ⟨3, ![4, 4096, 1280]⟩
abbrev S4x4096x1 : Shape := ⟨3, ![4, 4096, 1]⟩
abbrev S1280x5376 : Shape := ⟨2, ![1280, 5376]⟩
abbrev S5376 : Shape := ⟨1, ![5376]⟩
abbrev S4x4096x5376 : Shape := ⟨3, ![4, 4096, 5376]⟩
abbrev S16384x1280 : Shape := ⟨2, ![16384, 1280]⟩
abbrev S16384x1 : Shape := ⟨2, ![16384, 1]⟩
abbrev S1x5376 : Shape := ⟨2, ![1, 5376]⟩
abbrev S16384x5376 : Shape := ⟨2, ![16384, 5376]⟩
abbrev S16384x42 : Shape := ⟨2, ![16384, 42]⟩
abbrev S16384 : Shape := ⟨1, ![16384]⟩
abbrev S16384x42x128 : Shape := ⟨3, ![16384, 42, 128]⟩
abbrev S16384x42x1 : Shape := ⟨3, ![16384, 42, 1]⟩

abbrev nBuf : Space → Nat
  | .hbm => 14
  | .vmem => 9
  | .smem => 0
  | _ => 0

abbrev bufTy : (tb : Table) → Fin (tcTables nBuf tb) → BufTy
  | .hbm, ⟨0, _⟩ => ⟨S4x4096x1280, .fp8e4m3⟩
  | .hbm, ⟨1, _⟩ => ⟨S4x4096x1, .f32⟩
  | .hbm, ⟨2, _⟩ => ⟨S1280x5376, .fp8e4m3⟩
  | .hbm, ⟨3, _⟩ => ⟨S5376, .f32⟩
  | .hbm, ⟨4, _⟩ => ⟨S4x4096x5376, .bf16⟩
  | .hbm, ⟨5, _⟩ => ⟨S5376, .bf16⟩
  | .hbm, ⟨6, _⟩ => ⟨S16384x1280, .fp8e4m3⟩
  | .hbm, ⟨7, _⟩ => ⟨S16384x1, .f32⟩
  | .hbm, ⟨8, _⟩ => ⟨S1x5376, .f32⟩
  | .hbm, ⟨9, _⟩ => ⟨S16384x5376, .bf16⟩
  | .hbm, ⟨10, _⟩ => ⟨S1x5376, .bf16⟩
  | .hbm, ⟨11, _⟩ => ⟨S16384x5376, .bf16⟩
  | .hbm, ⟨12, _⟩ => ⟨S16384x5376, .fp8e4m3⟩
  | .hbm, ⟨13, _⟩ => ⟨S16384x42, .f32⟩
  | .local _ .vmem, ⟨0, _⟩ => ⟨S16384x1280, .fp8e4m3⟩
  | .local _ .vmem, ⟨1, _⟩ => ⟨S16384x1, .f32⟩
  | .local _ .vmem, ⟨2, _⟩ => ⟨S1280x5376, .fp8e4m3⟩
  | .local _ .vmem, ⟨3, _⟩ => ⟨S1x5376, .f32⟩
  | .local _ .vmem, ⟨4, _⟩ => ⟨S16384x5376, .bf16⟩
  | .local _ .vmem, ⟨5, _⟩ => ⟨S1x5376, .bf16⟩
  | .local _ .vmem, ⟨6, _⟩ => ⟨S16384x5376, .bf16⟩
  | .local _ .vmem, ⟨7, _⟩ => ⟨S16384x5376, .fp8e4m3⟩
  | .local _ .vmem, ⟨8, _⟩ => ⟨S16384x42, .f32⟩
  | _, _ => ⟨S4x4096x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5376 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x5376 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x5376 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x42 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KitK.lean ====
/- What the run of the kernel needs besides the body: the arrays as the region finds them, the windows' blocks, the frame from a
   frame run, the branch's condition in closed form, the staging memrefs. -/
module

public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the region make no buffers of their own. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0, from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, e0]
    word_cmp
   : ∀ t : Fin grid0.N, cond0_0 (grid0.coords t) ↔ t.val % 65 = 0)

/-! ## The staging memrefs -/

/-- Each window's current staging memref at point `t`, spelled as the pipeline passes it (`bodyAt0`), and its wholeness. -/
abbrev ms0_0 (t : Fin cfg0.N) : Memref sig .tc .vmem S256x1280 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x5376 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5376 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x5376 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5376 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x5376 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x5376 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x42 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x5376 .bf16 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
/-- The scratch `arg10` the kernel carries between points, as a view: what it holds is stated through it. -/
abbrev VS0_0 : View sig .tc .vmem S256x5376 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Run

end
-- ==== Proof.Body.lean ====
/- The kernel's body as loops: what the printed body, which is the same loops unrolled, runs. Stated once, over any signature and any
   value of the constant the row sum is multiplied by, so that both printed kernels are instances of it. -/
module

public import Idealize.ShloMosaic.Lib.Pipeline
public import Idealize.ShloMosaic.Lib.Scf
public import Idealize.ShloMosaic.Lib.Sig
public import Idealize.ShloMosaic.PureOps
public import Idealize.ShloMosaic.PureOps.Ideal

@[expose] public section

namespace Cert.Body

open Idealize.ShloMosaic Idealize.SL.Sem

abbrev T256x1280 : Shape := ⟨2, ![256, 1280]⟩
abbrev T1x1x256 : Shape := ⟨3, ![1, 1, 256]⟩
abbrev T1280x5376 : Shape := ⟨2, ![1280, 5376]⟩
abbrev T1x5376 : Shape := ⟨2, ![1, 5376]⟩
abbrev T256x5376 : Shape := ⟨2, ![256, 5376]⟩
abbrev T256x42 : Shape := ⟨2, ![256, 42]⟩
abbrev T256x128 : Shape := ⟨2, ![256, 128]⟩
abbrev T16x128 : Shape := ⟨2, ![16, 128]⟩
abbrev T16 : Shape := ⟨1, ![16]⟩
abbrev T16x1 : Shape := ⟨2, ![16, 1]⟩
abbrev T1x1x128 : Shape := ⟨3, ![1, 1, 128]⟩
abbrev T1x128 : Shape := ⟨2, ![1, 128]⟩
abbrev T128x128 : Shape := ⟨2, ![128, 128]⟩
abbrev T1280x256 : Shape := ⟨2, ![1280, 256]⟩
abbrev T256x256 : Shape := ⟨2, ![256, 256]⟩
abbrev T32x128 : Shape := ⟨2, ![32, 128]⟩
abbrev T32 : Shape := ⟨1, ![32]⟩
abbrev T32x1 : Shape := ⟨2, ![32, 1]⟩

variable {F : FTy → Type} [FloatOps F]

/-! ## Bounds and shape relations -/

/-- bf16 is narrower than f32. -/
theorem bitsLt_bf16 : FTy.bits .bf16 < FTy.bits .f32 := by decide
/-- fp8 is narrower than f32. -/
theorem bitsLt_fp8 : FTy.bits .fp8e4m3 < FTy.bits .f32 := by decide

/-- A tile of `a × b` at `(r, q)` lies in an `m × n` array. -/
theorem inb2 {m n a b r q : ℕ} (h1 : r + a ≤ m) (h2 : q + b ≤ n) :
    ∀ x, (![r, q] : Fin 2 → Nat) x + (⟨2, ![a, b]⟩ : Shape).size x ≤ (⟨2, ![m, n]⟩ : Shape).size x := by
  intro x; fin_cases x
  · exact h1
  · exact h2

/-- 128 lanes from lane `q` lie inside the 256 of a block of row scales. -/
theorem inb3 {q : ℕ} (h : q + 128 ≤ 256) :
    ∀ x, (![0, 0, q] : Fin 3 → Nat) x + T1x1x128.size x ≤ T1x1x256.size x := by
  intro x; fin_cases x
  · exact Nat.le_refl 1
  · exact Nat.le_refl 1
  · exact h

/-- A shape casts to itself. -/
theorem casts_refl (s : Shape) : s.ShapeCasts s := rfl
/-- A slab reduces over its lanes to a column. -/
theorem red16 : T16x128.Reduces [1] T16 := by decide
/-- A slab's row sums are read as a column. -/
theorem casts_16_16x1 : T16.ShapeCasts T16x1 := by decide
/-- A slab's column is spread over the lanes. -/
theorem bc_16x1_16x128 : T16x1.Broadcasts T16x128 := by decide
/-- 128 row scales are read as a row. -/
theorem casts_1x1x128_1x128 : T1x1x128.ShapeCasts T1x128 := by decide
/-- A row is spread over 128 rows. -/
theorem bc_1x128_128x128 : T1x128.Broadcasts T128x128 := by decide
/-- A square of 128 is transposed. -/
theorem tr_128x128 : T128x128.Transposes [1, 0] T128x128 := by decide
/-- A row is spread over a tile. -/
theorem bc_1x128_32x128 : T1x128.Broadcasts T32x128 := by decide
/-- A tile reduces over its lanes to a column. -/
theorem red32 : T32x128.Reduces [1] T32 := by decide
/-- A tile's row maxima are read as a column. -/
theorem casts_32_32x1 : T32.ShapeCasts T32x1 := by decide
/-- A tile's column is spread over the lanes. -/
theorem bc_32x1_32x128 : T32x1.Broadcasts T32x128 := by decide
/-- The first 42 of 128 lanes. -/
theorem slices42 : T256x128.Slices ![0, 0] T256x42 := by decide
/-- A tile is a slice of 256 columns of the product. -/
theorem slices_acc {r q : ℕ} (h1 : r + 32 ≤ 256) (h2 : q + 128 ≤ 256) : T256x256.Slices ![r, q] T32x128 :=
  ⟨rfl, fun a => by fin_cases a; exacts [h1, h2]⟩
/-- The product contracts the second axis of the codes with the first of the weights. -/
theorem dot_wf : DotDims.WF T256x1280 T1280x256 T256x256 [1] [0] [0] [1] [] [] := by decide

/-- The dimensions of the projection's product: rows of the left operand by columns of the right. -/
def dotD : DotDims T256x1280 T1280x256 T256x256 where
  lhsContracting := [1]
  rhsContracting := [0]
  lhsNonContracting := [0]
  rhsNonContracting := [1]
  lhsBatch := []
  rhsBatch := []
  wf := dot_wf

/-! ## The pure values -/

/-- The square of a slab of the normalised array's input. -/
def sqV (v : Vec F T16x128 .bf16) : FVec F T16x128 .f32 := mulf (extf .f32 v bitsLt_bf16) (extf .f32 v bitsLt_bf16)

/-- The reciprocal root of a slab's mean square, from the lane sums, on every lane. -/
def rmsV (invn : F .f32) (acc : FVec F T16x128 .f32) : FVec F T16x128 .f32 :=
  broadcastTo T16x128
    (shapeCast T16x1
      (rsqrt (addf
        (mulf (shapeCast T16x1 (multiReduction .add [1] T16 acc 0x00000000#32 red16 (.inl rfl) rfl) casts_16_16x1) (broadcast T16x1 invn))
        (broadcast T16x1 (Scalar.ofBits .f32 0x3727C5AC#32)))) (casts_refl _)) bc_16x1_16x128

/-- 128 of the row scales, one to a row, on every lane. -/
def xsbV (v : Vec F T1x1x128 .f32) : FVec F T128x128 .f32 :=
  transpose T128x128 [1, 0]
    (broadcastTo T128x128 (shapeCast T1x128 (shapeCast T1x128 v casts_1x1x128_1x128) (casts_refl _)) bc_1x128_128x128) tr_128x128

/-- 256 columns of the product. -/
def accV (x : Vec F T256x1280 .fp8e4m3) (w : Vec F T1280x256 .fp8e4m3) : FVec F T256x256 .f32 :=
  matmul dotD none (shapeCast T256x1280 x (casts_refl _)) w (constant T256x256 .f32 0x00000000#32)

/-- A group's gains. -/
def gamV (v : Vec F T1x128 .bf16) : FVec F T1x128 .f32 := extf .f32 (shapeCast T1x128 v (casts_refl _)) bitsLt_bf16

/-- A tile of the normalised array. -/
def nV (hs : Vec F T32x128 .bf16) (rms : Vec F T32x128 .f32) (gam : FVec F T1x128 .f32) : FVec F T32x128 .f32 :=
  mulf (mulf (extf .f32 hs bitsLt_bf16) rms) (broadcastTo T32x128 gam bc_1x128_32x128)

/-- Each row's largest magnitude in a tile. -/
def absmaxV (n : FVec F T32x128 .f32) : FVec F T32x1 .f32 :=
  shapeCast T32x1 (multiReduction .maximumf [1] T32 (absf n) 0xFF800000#32 red32 (.inl rfl) rfl) casts_32_32x1

/-- Each row's largest magnitude over 448. -/
def overV (a : FVec F T32x1 .f32) : FVec F T32x1 .f32 := mulf a (broadcast T32x1 (Scalar.ofBits .f32 0x3B124925#32))

/-- The power of two that a row of a tile is multiplied by, from its largest magnitude. -/
def invV (a : FVec F T32x1 .f32) : FVec F T32x1 .f32 :=
  select (cmpf .oeq (overV a) (broadcast T32x1 (Scalar.ofBits .f32 0x00000000#32))) (broadcast T32x1 (Scalar.ofBits .f32 0x7E800000#32))
    (exp2 (subf (broadcast T32x1 (Scalar.ofBits .f32 0x00000000#32))
      (addf
        (floor (divf (log (overV a))
          (log (broadcast T32x1 (Scalar.ofBits .f32 0x40000000#32)))))
        (broadcast T32x1 (Scalar.ofBits .f32 0x3F800000#32)))))

/-- The same with one where the row is all zeros: what is kept for the scales. -/
def invKeptV (a : FVec F T32x1 .f32) : FVec F T32x1 .f32 :=
  select (cmpf .oeq a (broadcast T32x1 (Scalar.ofBits .f32 0x00000000#32))) (broadcast T32x1 (Scalar.ofBits .f32 0x3F800000#32)) (invV a)

/-- A tile of the codes. -/
def codesV (n : FVec F T32x128 .f32) (inv : FVec F T32x1 .f32) : FVec F T32x128 .fp8e4m3 :=
  truncf .fp8e4m3
    (minimumf (broadcast T32x128 (Scalar.ofBits .f32 0x43E00000#32))
      (maximumf (broadcast T32x128 (Scalar.ofBits .f32 0xC3E00000#32)) (mulf n (broadcastTo T32x128 inv bc_32x1_32x128)))) bitsLt_fp8

/-- A tile of the product, at rows `32 s` on and lanes `128 c` on of its 256 columns. -/
def accTile (acc : FVec F T256x256 .f32) (s : Fin 8) (c : Fin 2) : FVec F T32x128 .f32 :=
  extractStridedSlice T32x128 ![32 * s.val, 128 * c.val] acc (slices_acc (by omega) (by omega))

/-- A tile of the residual sum. -/
def hV (acc : FVec F T32x128 .f32) (xsb : Vec F T32x128 .f32) (ws : FVec F T1x128 .f32) (res : Vec F T32x128 .bf16) : FVec F T32x128 .bf16 :=
  truncf .bf16 (addf (extf .f32 (shapeCast T32x128 res (casts_refl _)) bitsLt_bf16) (mulf (mulf acc xsb) (broadcastTo T32x128 ws bc_1x128_32x128)))
    bitsLt_bf16

/-- The scales from the kept powers. -/
def scaleV (v : Vec F T256x128 .f32) : FVec F T256x42 .f32 :=
  extractStridedSlice T256x42 ![0, 0] (divf (broadcast T256x128 (Scalar.ofBits .f32 0x3F800000#32)) v) slices42

/-! ## The loops -/

variable {nD : ℕ} {τ : Topo} {sig : RefSig} {Λ : Labels}

/-- A program of the tensor core. -/
abbrev Pg (nD : ℕ) (τ : Topo) (sig : RefSig) (Λ : Labels) (F : FTy → Type) : Type 1 := Prog (TpuEff nD τ sig (Elt F) Λ .tc) PUnit

/-- Load the tile of size `t` at `off` and go on with it. -/
def ld {s : Shape} {e : EltTy} (m : Memref sig .tc .vmem s e) (off : Fin s.rank → ℕ) (t : Fin s.rank → ℕ)
    (inb : ∀ a, off a + t a ≤ s.size a) (pos : 0 < (Rect.unit (s := s) off t inb).shape.numel)
    (K : ((Rect.unit (s := s) off t inb).shape.Idx → Elt F e) → Pg nD τ sig Λ F) : Pg nD τ sig Λ F :=
  Prog.op (.load m (Rect.unit (s := s) off t inb).toLoadRect (View.loadsAt_vmem pos)) K

/-- Store over the tile of size `t` at `off` and go on. -/
def st {s : Shape} {e : EltTy} (m : Memref sig .tc .vmem s e) (off : Fin s.rank → ℕ) (t : Fin s.rank → ℕ)
    (inb : ∀ a, off a + t a ≤ s.size a) (ev : (m.access (Rect.unit (s := s) off t inb)).Stores Finset.univ)
    (v : (Rect.unit (s := s) off t inb).shape.Idx → Elt F e) (K : Pg nD τ sig Λ F) : Pg nD τ sig Λ F :=
  Prog.op (.store m (Rect.unit (s := s) off t inb) v Finset.univ ev (.inl rfl)) fun _ => K

/-- Run `f` at `0`, `1`, …, `N - 1`, each going on with what comes after it; `n` of them are left. -/
def loop (N : ℕ) (f : Fin N → Pg nD τ sig Λ F → Pg nD τ sig Λ F) : (n : ℕ) → n ≤ N → Pg nD τ sig Λ F → Pg nD τ sig Λ F
  | 0, _, K => K
  | n + 1, h, K => f ⟨N - (n + 1), by omega⟩ (loop N f n (by omega) K)

/-! ## The body -/

/-- A rectangle with positive sides has an element. -/
theorem pos2 {a b : ℕ} (ha : 0 < a) (hb : 0 < b) : 0 < (⟨2, ![a, b]⟩ : Shape).numel := by
  simp [Shape.numel, Fin.prod_univ_two, ha, hb]

section
variable (a1 : Memref sig .tc .vmem T256x1280 .fp8e4m3) (a2 : Memref sig .tc .vmem T1x1x256 .f32)
  (a3 : Memref sig .tc .vmem T1280x5376 .fp8e4m3) (a4 : Memref sig .tc .vmem T1x5376 .f32)
  (a5 : Memref sig .tc .vmem T256x5376 .bf16) (a6 : Memref sig .tc .vmem T1x5376 .bf16)
  (a7 : Memref sig .tc .vmem T256x5376 .bf16) (h7 : a7.IsWhole) (a8 : Memref sig .tc .vmem T256x5376 .fp8e4m3) (h8 : a8.IsWhole)
  (a9 : Memref sig .tc .vmem T256x42 .f32)
  (a10 : Memref sig .tc .vmem T256x5376 .bf16) (h10 : a10.IsWhole) (a11 : Memref sig .tc .vmem T256x128 .f32)
  (a12 : Memref sig .tc .vmem T256x128 .f32) (a13 : Memref sig .tc .vmem T256x128 .f32)

/-- What the first grid point does before the rest: zeros over the kept rows, ones over the kept powers. -/
def initP (K : Pg nD τ sig Λ F) : Pg nD τ sig Λ F :=
  ld a10 ![0, 0] T256x5376.size (inb2 (by decide) (by decide)) (by decide) fun _ =>
  st a10 ![0, 0] T256x5376.size (inb2 (by decide) (by decide)) (View.stores_vmem (by decide) (h10.storeExact_slice rfl _ (by decide)) (fun _ => rfl))
    (shapeCast T256x5376 (broadcast T256x5376 (Scalar.ofBits (F := F) .bf16 0x0000#16)) (casts_refl _)) <|
  ld a13 ![0, 0] T256x128.size (inb2 (by decide) (by decide)) (by decide) fun _ =>
  st a13 ![0, 0] T256x128.size (inb2 (by decide) (by decide)) (View.stores_vmem_bits_univ (by decide) rfl)
    (shapeCast T256x128 (broadcast T256x128 (Scalar.ofBits (F := F) .f32 0x3F800000#32)) (casts_refl _)) K

/-- The lane sums of a slab's squares: the groups after the first, `n` of them left, on top of `acc`. -/
def sqLoop (s : Fin 16) : (n : ℕ) → n ≤ 41 → FVec F T16x128 .f32 → (FVec F T16x128 .f32 → Pg nD τ sig Λ F) → Pg nD τ sig Λ F
  | 0, _, acc, K => K acc
  | n + 1, h, acc, K =>
    ld a10 ![16 * s.val, 128 * (42 - (n + 1))] T16x128.size (inb2 (by omega) (by omega)) (pos2 (by decide) (by decide)) fun v =>
      sqLoop s n (by omega) (addf acc (sqV v)) K

/-- A slab: its squares summed, the reciprocal root of their mean kept for each row. -/
def slabP (invn : F .f32) (s : Fin 16) (K : Pg nD τ sig Λ F) : Pg nD τ sig Λ F :=
  ld a10 ![16 * s.val, 0] T16x128.size (inb2 (by omega) (by omega)) (pos2 (by decide) (by decide)) fun v =>
  sqLoop a10 s 41 (le_refl _) (sqV v) fun acc =>
  ld a12 ![16 * s.val, 0] T16x128.size (inb2 (by omega) (by omega)) (pos2 (by decide) (by decide)) fun _ =>
  st a12 ![16 * s.val, 0] T16x128.size (inb2 (by omega) (by omega)) (View.stores_vmem_bits_univ (pos2 (by decide) (by decide)) rfl)
    (shapeCast T16x128 (rmsV invn acc) (casts_refl _)) K

/-- Half of the row scales moved to the rows. -/
def xsbP (q : Fin 2) (K : Pg nD τ sig Λ F) : Pg nD τ sig Λ F :=
  ld a2 ![0, 0, 128 * q.val] T1x1x128.size (inb3 (by omega)) (show 0 < T1x1x128.numel by decide) fun v =>
  ld a11 ![128 * q.val, 0] T128x128.size (inb2 (by omega) (by omega)) (pos2 (by decide) (by decide)) fun _ =>
  st a11 ![128 * q.val, 0] T128x128.size (inb2 (by omega) (by omega)) (View.stores_vmem_bits_univ (pos2 (by decide) (by decide)) rfl)
    (shapeCast T128x128 (xsbV v) (casts_refl _)) K

/-- A tile whose first row is a multiple of the packing is whole packed rows. -/
theorem packedRows {e : EltTy} (r q : ℕ) (inb : ∀ a, (![r, q] : Fin 2 → ℕ) a + T32x128.size a ≤ T256x5376.size a) (hr : e.packing ∣ r) (h32 : e.packing ∣ 32) :
    (Rect.unit (s := T256x5376) ![r, q] T32x128.size inb).PackedRows e.packing :=
  .inr ⟨(le_refl 2 : 2 ≤ 2), rfl, .inl ⟨hr, h32⟩⟩

/-- A tile: the codes of the kept rows there, then the sum of residual and product, kept in their place. -/
def unitP (j : Fin 21) (c : Fin 2) (acc : FVec F T256x256 .f32) (gam ws : FVec F T1x128 .f32) (s : Fin 8) (K : Pg nD τ sig Λ F) : Pg nD τ sig Λ F :=
  ld a10 ![32 * s.val, 256 * j.val + 128 * c.val] T32x128.size (inb2 (by omega) (by omega)) (pos2 (by decide) (by decide)) fun hs =>
  ld a12 ![32 * s.val, 0] T32x128.size (inb2 (by omega) (by omega)) (pos2 (by decide) (by decide)) fun rms =>
  ld a13 ![32 * s.val, 2 * j.val + c.val] T32x1.size (inb2 (by omega) (by omega)) (pos2 (by decide) (by decide)) fun _ =>
  st a13 ![32 * s.val, 2 * j.val + c.val] T32x1.size (inb2 (by omega) (by omega)) (View.stores_vmem_bits_univ (pos2 (by decide) (by decide)) rfl)
    (shapeCast T32x1 (invKeptV (absmaxV (nV hs rms gam))) (casts_refl _)) <|
  ld a8 ![32 * s.val, 256 * j.val + 128 * c.val] T32x128.size (inb2 (by omega) (by omega)) (pos2 (by decide) (by decide)) fun _ =>
  st a8 ![32 * s.val, 256 * j.val + 128 * c.val] T32x128.size (inb2 (by omega) (by omega))
    (View.stores_vmem (pos2 (by decide) (by decide)) (h8.storeExact_slice rfl _ (packedRows _ _ _ (by show 4 ∣ _; omega) (by decide))) (fun _ => rfl))
    (codesV (nV hs rms gam) (invV (absmaxV (nV hs rms gam)))) <|
  ld a11 ![32 * s.val, 0] T32x128.size (inb2 (by omega) (by omega)) (pos2 (by decide) (by decide)) fun xsb =>
  ld a5 ![32 * s.val, 256 * j.val + 128 * c.val] T32x128.size (inb2 (by omega) (by omega)) (pos2 (by decide) (by decide)) fun res =>
  ld a7 ![32 * s.val, 256 * j.val + 128 * c.val] T32x128.size (inb2 (by omega) (by omega)) (pos2 (by decide) (by decide)) fun _ =>
  st a7 ![32 * s.val, 256 * j.val + 128 * c.val] T32x128.size (inb2 (by omega) (by omega))
    (View.stores_vmem (pos2 (by decide) (by decide)) (h7.storeExact_slice rfl _ (packedRows _ _ _ (by show 2 ∣ _; omega) (by decide))) (fun _ => rfl))
    (hV (accTile acc s c) xsb ws res) <|
  ld a10 ![32 * s.val, 256 * j.val + 128 * c.val] T32x128.size (inb2 (by omega) (by omega)) (pos2 (by decide) (by decide)) fun _ =>
  st a10 ![32 * s.val, 256 * j.val + 128 * c.val] T32x128.size (inb2 (by omega) (by omega))
    (View.stores_vmem (pos2 (by decide) (by decide)) (h10.storeExact_slice rfl _ (packedRows _ _ _ (by show 2 ∣ _; omega) (by decide))) (fun _ => rfl))
    (shapeCast T32x128 (hV (accTile acc s c) xsb ws res) (casts_refl _)) K

/-- A group of 128 columns: its eight tiles. -/
def groupP (j : Fin 21) (acc : FVec F T256x256 .f32) (c : Fin 2) (K : Pg nD τ sig Λ F) : Pg nD τ sig Λ F :=
  ld a6 ![0, 256 * j.val + 128 * c.val] T1x128.size (inb2 (by omega) (by omega)) (pos2 (by decide) (by decide)) fun gam =>
  ld a4 ![0, 256 * j.val + 128 * c.val] T1x128.size (inb2 (by omega) (by omega)) (pos2 (by decide) (by decide)) fun ws =>
  loop 8 (unitP a5 a7 h7 a8 h8 a10 h10 a11 a12 a13 j c acc (gamV gam) (shapeCast T1x128 ws (casts_refl _))) 8 (le_refl _) K

/-- 256 columns: their product, then their two groups. -/
def colsP (j : Fin 21) (K : Pg nD τ sig Λ F) : Pg nD τ sig Λ F :=
  ld a1 ![0, 0] T256x1280.size (inb2 (by omega) (by omega)) (by decide) fun x =>
  ld a3 ![0, 256 * j.val] T1280x256.size (inb2 (by omega) (by omega)) (pos2 (by decide) (by decide)) fun w =>
  loop 2 (groupP a4 a5 a6 a7 h7 a8 h8 a10 h10 a11 a12 a13 j (accV x w)) 2 (le_refl _) K

/-- The scales from the kept powers. -/
def scaleP : Pg nD τ sig Λ F :=
  ld a13 ![0, 0] T256x128.size (inb2 (by decide) (by decide)) (by decide) fun v =>
  ld a9 ![0, 0] T256x42.size (inb2 (by decide) (by decide)) (by decide) fun _ =>
  st a9 ![0, 0] T256x42.size (inb2 (by decide) (by decide)) (View.stores_vmem_bits_univ (by decide) rfl) (scaleV v) (.ret ⟨⟩)

/-- All of the body but what the first grid point does before it. -/
def mainP (invn : F .f32) : Pg nD τ sig Λ F :=
  loop 16 (slabP a10 a12 invn) 16 (le_refl _) <|
  loop 2 (xsbP a2 a11) 2 (le_refl _) <|
  loop 21 (colsP a1 a3 a4 a5 a6 a7 h7 a8 h8 a10 h10 a11 a12 a13) 21 (le_refl _) <|
  scaleP a9 a13

end

end Cert.Body

end
-- ==== Proof.BodyEqK.lean ====
/- The printed body is the loops of `Body`. -/
module

public import proofs.«01_k».proof.Kernel
public import proofs.«01_k».proof.Proof.Body

@[expose] public section

set_option Elab.async false

namespace Cert.Kernel

open Idealize.ShloMosaic Idealize.SL.Sem

variable {F : FTy → Type} [FloatOps F] [Facts]

set_option maxRecDepth 1000000 in
set_option maxHeartbeats 0 in
/-- At the first grid point the printed body is the same after the two initial stores. -/
theorem body_A (i : grid0.Coords) (arg1 : Memref sig .tc .vmem S256x1280 .fp8e4m3) (harg1 : arg1.IsWhole) (arg2 : Memref sig .tc .vmem S1x1x256 .f32) (harg2 : arg2.IsWhole) (arg3 : Memref sig .tc .vmem S1280x5376 .fp8e4m3) (harg3 : arg3.IsWhole) (arg4 : Memref sig .tc .vmem S1x5376 .f32) (harg4 : arg4.IsWhole) (arg5 : Memref sig .tc .vmem S256x5376 .bf16) (harg5 : arg5.IsWhole) (arg6 : Memref sig .tc .vmem S1x5376 .bf16) (harg6 : arg6.IsWhole) (arg7 : Memref sig .tc .vmem S256x5376 .bf16) (harg7 : arg7.IsWhole) (arg8 : Memref sig .tc .vmem S256x5376 .fp8e4m3) (harg8 : arg8.IsWhole) (arg9 : Memref sig .tc .vmem S256x42 .f32) (harg9 : arg9.IsWhole) (arg10 : Memref sig .tc .vmem S256x5376 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (hc : (Scalar.cmpi .ne (Scalar.extui (Scalar.cmpi .eq (BitVec.ofNat 32 (i 0).val) 0#32)) 0#32 : BitVec 1) = 1#1) :
    cc0_proj_residual_rmsnorm_fp8 (F := F) i arg1 harg1 arg2 harg2 arg3 harg3 arg4 harg4 arg5 harg5 arg6 harg6 arg7 harg7 arg8 harg8 arg9 harg9 arg10 harg10 arg11 harg11 arg12 harg12 arg13 harg13
      = Body.initP (nD := nD) (τ := τ) (Λ := Λ₀) arg10 harg10 arg13 (Body.mainP arg1 arg2 arg3 arg4 arg5 arg6 arg7 harg7 arg8 harg8 arg9 arg10 harg10 arg11 arg12 arg13 (Scalar.ofBits .f32 0x39430C31#32)) := by
  unfold cc0_proj_residual_rmsnorm_fp8 k0_part558 k0_part1
  simp only [dif_pos hc]
  rfl

set_option maxRecDepth 1000000 in
set_option maxHeartbeats 0 in
/-- After the first grid point the printed body is the loops. -/
theorem body_B (i : grid0.Coords) (arg1 : Memref sig .tc .vmem S256x1280 .fp8e4m3) (harg1 : arg1.IsWhole) (arg2 : Memref sig .tc .vmem S1x1x256 .f32) (harg2 : arg2.IsWhole) (arg3 : Memref sig .tc .vmem S1280x5376 .fp8e4m3) (harg3 : arg3.IsWhole) (arg4 : Memref sig .tc .vmem S1x5376 .f32) (harg4 : arg4.IsWhole) (arg5 : Memref sig .tc .vmem S256x5376 .bf16) (harg5 : arg5.IsWhole) (arg6 : Memref sig .tc .vmem S1x5376 .bf16) (harg6 : arg6.IsWhole) (arg7 : Memref sig .tc .vmem S256x5376 .bf16) (harg7 : arg7.IsWhole) (arg8 : Memref sig .tc .vmem S256x5376 .fp8e4m3) (harg8 : arg8.IsWhole) (arg9 : Memref sig .tc .vmem S256x42 .f32) (harg9 : arg9.IsWhole) (arg10 : Memref sig .tc .vmem S256x5376 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (hc : ¬ (Scalar.cmpi .ne (Scalar.extui (Scalar.cmpi .eq (BitVec.ofNat 32 (i 0).val) 0#32)) 0#32 : BitVec 1) = 1#1) :
    cc0_proj_residual_rmsnorm_fp8 (F := F) i arg1 harg1 arg2 harg2 arg3 harg3 arg4 harg4 arg5 harg5 arg6 harg6 arg7 harg7 arg8 harg8 arg9 harg9 arg10 harg10 arg11 harg11 arg12 harg12 arg13 harg13
      = Body.mainP (nD := nD) (τ := τ) (Λ := Λ₀) arg1 arg2 arg3 arg4 arg5 arg6 arg7 harg7 arg8 harg8 arg9 arg10 harg10 arg11 arg12 arg13 (Scalar.ofBits .f32 0x39430C31#32) := by
  unfold cc0_proj_residual_rmsnorm_fp8 k0_part558 k0_part1
  simp only [dif_neg hc]
  rfl

end Cert.Kernel

end
-- ==== Proof.Exec.lean ====
/- What the loops of `Body` do to the buffers: each piece of the body as a function of what the thirteen buffers hold, with the triple
   that says so. Everything the two kernels' runs need of the body is `wp_mainP` and `wp_initP`. -/
module

public import proofs.«01_k».proof.Proof.Body
public import Idealize.ShloMosaic.Lib.VecWindow
public import Idealize.ShloMosaic.Lib.Writes

@[expose] public section

noncomputable section

namespace Cert.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the thirteen buffers hold. -/
structure St (F : FTy → Type) where
  x1 : Vec F T256x1280 .fp8e4m3
  x2 : Vec F T1x1x256 .f32
  x3 : Vec F T1280x5376 .fp8e4m3
  x4 : Vec F T1x5376 .f32
  x5 : Vec F T256x5376 .bf16
  x6 : Vec F T1x5376 .bf16
  x7 : Vec F T256x5376 .bf16
  x8 : Vec F T256x5376 .fp8e4m3
  x9 : Vec F T256x42 .f32
  x10 : Vec F T256x5376 .bf16
  x11 : Vec F T256x128 .f32
  x12 : Vec F T256x128 .f32
  x13 : Vec F T256x128 .f32

/-! ## The body as functions of the buffers -/

/-- Apply `f` at `0`, `1`, …, `N - 1` in turn; `n` of them are left. -/
def iter {α : Type} (N : ℕ) (f : Fin N → α → α) : (n : ℕ) → n ≤ N → α → α
  | 0, _, a => a
  | n + 1, h, a => iter N f n (by omega) (f ⟨N - (n + 1), by omega⟩ a)

/-- The two stores of the first grid point: zeros to the kept rows, ones to the kept powers. -/
def initF (S : St F) : St F :=
  { S with
    x10 := VecWindow.put S.x10 ![0, 0] T256x5376.size (shapeCast T256x5376 (broadcast T256x5376 (Scalar.ofBits (F := F) .bf16 0x0000#16)) (casts_refl _))
    x13 := VecWindow.put S.x13 ![0, 0] T256x128.size (shapeCast T256x128 (broadcast T256x128 (Scalar.ofBits (F := F) .f32 0x3F800000#32)) (casts_refl _)) }

/-- The lane sums of a slab of `hs`, `n` groups left, on top of `acc`. -/
def sqF (hs : Vec F T256x5376 .bf16) (s : Fin 16) : (n : ℕ) → n ≤ 41 → FVec F T16x128 .f32 → FVec F T16x128 .f32
  | 0, _, acc => acc
  | n + 1, h, acc =>
    sqF hs s n (by omega) (addf acc (sqV (VecWindow.window hs ![16 * s.val, 128 * (42 - (n + 1))] T16x128.size (inb2 (by omega) (by omega)))))

/-- One slab's step: the reciprocal root mean squares of its sixteen kept rows. -/
def slabF (invn : F .f32) (s : Fin 16) (S : St F) : St F :=
  { S with
    x12 := VecWindow.put S.x12 ![16 * s.val, 0] T16x128.size (shapeCast T16x128 (rmsV invn
      (sqF S.x10 s 41 (le_refl _) (sqV (VecWindow.window S.x10 ![16 * s.val, 0] T16x128.size (inb2 (by omega) (by omega)))))) (casts_refl _)) }

/-- Half of the row scales, turned into a column and spread over the lanes. -/
def xsbF (q : Fin 2) (S : St F) : St F :=
  { S with
    x11 := VecWindow.put S.x11 ![128 * q.val, 0] T128x128.size
      (shapeCast T128x128 (xsbV (VecWindow.window S.x2 ![0, 0, 128 * q.val] T1x1x128.size (inb3 (by omega)))) (casts_refl _)) }

/-- A tile of the normalised array, of the kept rows. -/
def tileN (x10 : Vec F T256x5376 .bf16) (x12 : Vec F T256x128 .f32) (j : Fin 21) (c : Fin 2) (gam : FVec F T1x128 .f32) (s : Fin 8) : FVec F T32x128 .f32 :=
  nV (VecWindow.window x10 ![32 * s.val, 256 * j.val + 128 * c.val] T32x128.size (inb2 (by omega) (by omega)))
    (VecWindow.window x12 ![32 * s.val, 0] T32x128.size (inb2 (by omega) (by omega))) gam

/-- A tile of the residual sum. -/
def tileH (x11 : Vec F T256x128 .f32) (x5 : Vec F T256x5376 .bf16) (j : Fin 21) (c : Fin 2) (acc : FVec F T256x256 .f32) (ws : FVec F T1x128 .f32) (s : Fin 8) :
    FVec F T32x128 .bf16 :=
  hV (accTile acc s c) (VecWindow.window x11 ![32 * s.val, 0] T32x128.size (inb2 (by omega) (by omega))) ws
    (VecWindow.window x5 ![32 * s.val, 256 * j.val + 128 * c.val] T32x128.size (inb2 (by omega) (by omega)))

/-- One tile's step: codes and power of the kept rows, then the new rows in their place. -/
def unitF (j : Fin 21) (c : Fin 2) (acc : FVec F T256x256 .f32) (gam ws : FVec F T1x128 .f32) (s : Fin 8) (S : St F) : St F :=
  { S with
    x13 := VecWindow.put S.x13 ![32 * s.val, 2 * j.val + c.val] T32x1.size (shapeCast T32x1 (invKeptV (absmaxV (tileN S.x10 S.x12 j c gam s))) (casts_refl _))
    x8 := VecWindow.put S.x8 ![32 * s.val, 256 * j.val + 128 * c.val] T32x128.size
      (codesV (tileN S.x10 S.x12 j c gam s) (invV (absmaxV (tileN S.x10 S.x12 j c gam s))))
    x7 := VecWindow.put S.x7 ![32 * s.val, 256 * j.val + 128 * c.val] T32x128.size (tileH S.x11 S.x5 j c acc ws s)
    x10 := VecWindow.put S.x10 ![32 * s.val, 256 * j.val + 128 * c.val] T32x128.size (shapeCast T32x128 (tileH S.x11 S.x5 j c acc ws s) (casts_refl _)) }

/-- A group's gains, of the whole row of gains. -/
def gamAt (x6 : Vec F T1x5376 .bf16) (j : Fin 21) (c : Fin 2) : FVec F T1x128 .f32 :=
  gamV (VecWindow.window x6 ![0, 256 * j.val + 128 * c.val] T1x128.size (inb2 (by omega) (by omega)))

/-- A group's column scales, of the whole row of them. -/
def wsAt (x4 : Vec F T1x5376 .f32) (j : Fin 21) (c : Fin 2) : FVec F T1x128 .f32 :=
  shapeCast T1x128 (VecWindow.window x4 ![0, 256 * j.val + 128 * c.val] T1x128.size (inb2 (by omega) (by omega))) (casts_refl _)

/-- One group's step: its eight tiles in turn. -/
def groupF (j : Fin 21) (acc : FVec F T256x256 .f32) (c : Fin 2) (S : St F) : St F :=
  iter 8 (unitF j c acc (gamAt S.x6 j c) (wsAt S.x4 j c)) 8 (le_refl _) S

/-- 256 columns of the product, of the whole operands. -/
def accAt (x1 : Vec F T256x1280 .fp8e4m3) (x3 : Vec F T1280x5376 .fp8e4m3) (j : Fin 21) : FVec F T256x256 .f32 :=
  accV (VecWindow.window x1 ![0, 0] T256x1280.size (inb2 (by omega) (by omega)))
    (VecWindow.window x3 ![0, 256 * j.val] T1280x256.size (inb2 (by omega) (by omega)))

/-- One step over 256 columns: their two groups in turn. -/
def colsF (j : Fin 21) (S : St F) : St F :=
  iter 2 (groupF j (accAt S.x1 S.x3 j)) 2 (le_refl _) S

/-- The last step: the scales of the kept powers. -/
def scaleF (S : St F) : St F :=
  { S with
    x9 := VecWindow.put S.x9 ![0, 0] T256x42.size (scaleV (VecWindow.window S.x13 ![0, 0] T256x128.size (inb2 (by decide) (by decide)))) }

/-- The whole body after the first grid point's stores. -/
def mainF (invn : F .f32) (S : St F) : St F :=
  scaleF (iter 21 colsF 21 (le_refl _) (iter 2 xsbF 2 (le_refl _) (iter 16 (slabF invn) 16 (le_refl _) S)))

/-! ## The triples -/

variable {nD : ℕ} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)
variable {Q : PUnit → sProp (MT nD τ sig Ix (Elt F) Name U Lvl)}

/-- A load of a tile, the buffer held at `X`: it goes on with the tile's window of `X`. -/
theorem wp_ld {s : Shape} {e : EltTy} {m : Memref sig .tc .vmem s e} {off t : Fin s.rank → ℕ} {inb : ∀ a, off a + t a ≤ s.size a}
    {pos : 0 < (Rect.unit (s := s) off t inb).shape.numel} {K : ((Rect.unit (s := s) off t inb).shape.Idx → Elt F e) → Pg nD τ sig Λ F}
    {X : s.Idx → Elt F e} :
    (owns (c : Thread nD τ) m fullShare X : sProp 𝕄)
      ⊢ iprop((owns (c : Thread nD τ) m fullShare X -∗ wp frame (wpE defs 𝒱 c bd) E (K (VecWindow.window X off t inb)) Q)
        -∗ wp frame (wpE defs 𝒱 c bd) E (ld m off t inb pos K) Q) := by
  unfold owns
  iintro ⟨%f, %hf, H⟩ Hk
  subst hf
  have hl := wp_load (m := m) (defs := defs) 𝒱 (c : Thread nD τ) bd E (r := (Rect.unit (s := s) off t inb).toLoadRect) (Γ := .empty) (hl := View.loadsAt_vmem pos) (k := K) (Q := Q) (q := fullShare) (f := f)
    (m.view.setOn_subset_set _)
  iapply hl $$ H
  iintro H
  iapply Hk
  iexists f
  isplitr
  · ipureintro; rfl
  · iexact H

/-- A store over a tile, the buffer held at `X`: it goes on with the payload put over the tile. -/
theorem wp_st {s : Shape} {e : EltTy} {m : Memref sig .tc .vmem s e} {off t : Fin s.rank → ℕ} {inb : ∀ a, off a + t a ≤ s.size a}
    {ev : (m.access (Rect.unit (s := s) off t inb)).Stores Finset.univ} {v : (Rect.unit (s := s) off t inb).shape.Idx → Elt F e} {K : Pg nD τ sig Λ F}
    {X : s.Idx → Elt F e} :
    (owns (c : Thread nD τ) m fullShare X : sProp 𝕄)
      ⊢ iprop((owns (c : Thread nD τ) m fullShare (VecWindow.put X off t v) -∗ wp frame (wpE defs 𝒱 c bd) E K Q)
        -∗ wp frame (wpE defs 𝒱 c bd) E (st m off t inb ev v K) Q) := by
  unfold owns
  iintro ⟨%f, %hf, H⟩ Hk
  subst hf
  have hs := wp_store_writes₀ (m := m) (defs := defs) 𝒱 (c : Thread nD τ) bd E (r := Rect.unit (s := s) off t inb) (w := v) (hx := ev) (hm := .inl rfl)
    (k := fun _ => K) (Q := Q) (f := f) (S := m.view.set) (m.view.set_slice_subset _)
  iapply hs $$ H
  iintro H
  iapply Hk
  iexists (m.view.writes (Elt F) f [⟨Rect.unit (s := s) off t inb, v⟩])
  isplitr
  · ipureintro
    rw [View.read_writes_cons_put m.view f inb v [] rfl, View.writes_nil]
  · iexact H

/-- One buffer taken out of all that is held: held at `X`, and at any `Y` it can be put back, which leaves `G Y`. -/
def Foc {s : Shape} {e : EltTy} (O : sProp 𝕄) (m : Memref sig .tc .vmem s e) (X : s.Idx → Elt F e) (G : (s.Idx → Elt F e) → sProp 𝕄) : Prop :=
  O ⊢ iprop(owns (c : Thread nD τ) m fullShare X ∗ (∀ Y, owns (c : Thread nD τ) m fullShare Y -∗ G Y))

/-- A load of one of the buffers held goes on with what its window holds. -/
theorem ld_of {s : Shape} {e : EltTy} {m : Memref sig .tc .vmem s e} {off t : Fin s.rank → ℕ} {inb : ∀ a, off a + t a ≤ s.size a}
    {pos : 0 < (Rect.unit (s := s) off t inb).shape.numel} {K : ((Rect.unit (s := s) off t inb).shape.Idx → Elt F e) → Pg nD τ sig Λ F}
    {X : s.Idx → Elt F e} {O : sProp 𝕄} {G : (s.Idx → Elt F e) → sProp 𝕄} (hf : Foc c O m X G) (hG : G X = O)
    (hk : O ⊢ wp frame (wpE defs 𝒱 c bd) E (K (VecWindow.window X off t inb)) Q) :
    O ⊢ wp frame (wpE defs 𝒱 c bd) E (ld m off t inb pos K) Q := by
  refine hf.trans ?_
  have hl := wp_ld (defs := defs) 𝒱 c bd E (m := m) (off := off) (t := t) (inb := inb) (pos := pos) (K := K) (X := X) (Q := Q)
  iintro ⟨H, HG⟩
  iapply hl $$ H
  iintro H
  iapply hk
  rw [← hG]
  iapply HG $$ H

/-- A store to one of the buffers held leaves it with its window replaced. -/
theorem st_of {s : Shape} {e : EltTy} {m : Memref sig .tc .vmem s e} {off t : Fin s.rank → ℕ} {inb : ∀ a, off a + t a ≤ s.size a}
    {ev : (m.access (Rect.unit (s := s) off t inb)).Stores Finset.univ} {v : (Rect.unit (s := s) off t inb).shape.Idx → Elt F e} {K : Pg nD τ sig Λ F}
    {X : s.Idx → Elt F e} {O : sProp 𝕄} {G : (s.Idx → Elt F e) → sProp 𝕄} (hf : Foc c O m X G)
    (hk : G (VecWindow.put X off t v) ⊢ wp frame (wpE defs 𝒱 c bd) E K Q) :
    O ⊢ wp frame (wpE defs 𝒱 c bd) E (st m off t inb ev v K) Q := by
  refine hf.trans ?_
  have hs := wp_st (defs := defs) 𝒱 c bd E (m := m) (off := off) (t := t) (inb := inb) (ev := ev) (v := v) (K := K) (X := X) (Q := Q)
  iintro ⟨H, HG⟩
  iapply hs $$ H
  iintro H
  iapply hk
  iapply HG $$ H

section
variable (a1 : Memref sig .tc .vmem T256x1280 .fp8e4m3) (a2 : Memref sig .tc .vmem T1x1x256 .f32)
  (a3 : Memref sig .tc .vmem T1280x5376 .fp8e4m3) (a4 : Memref sig .tc .vmem T1x5376 .f32)
  (a5 : Memref sig .tc .vmem T256x5376 .bf16) (a6 : Memref sig .tc .vmem T1x5376 .bf16)
  (a7 : Memref sig .tc .vmem T256x5376 .bf16) (h7 : a7.IsWhole) (a8 : Memref sig .tc .vmem T256x5376 .fp8e4m3) (h8 : a8.IsWhole)
  (a9 : Memref sig .tc .vmem T256x42 .f32)
  (a10 : Memref sig .tc .vmem T256x5376 .bf16) (h10 : a10.IsWhole) (a11 : Memref sig .tc .vmem T256x128 .f32)
  (a12 : Memref sig .tc .vmem T256x128 .f32) (a13 : Memref sig .tc .vmem T256x128 .f32)

/-- The thirteen buffers held at what `S` says, with `R` besides. -/
def Own (R : sProp 𝕄) (S : St F) : sProp 𝕄 :=
  iprop(owns (c : Thread nD τ) a1 fullShare S.x1 ∗ owns (c : Thread nD τ) a2 fullShare S.x2 ∗ owns (c : Thread nD τ) a3 fullShare S.x3
    ∗ owns (c : Thread nD τ) a4 fullShare S.x4 ∗ owns (c : Thread nD τ) a5 fullShare S.x5 ∗ owns (c : Thread nD τ) a6 fullShare S.x6
    ∗ owns (c : Thread nD τ) a7 fullShare S.x7 ∗ owns (c : Thread nD τ) a8 fullShare S.x8 ∗ owns (c : Thread nD τ) a9 fullShare S.x9
    ∗ owns (c : Thread nD τ) a10 fullShare S.x10 ∗ owns (c : Thread nD τ) a11 fullShare S.x11 ∗ owns (c : Thread nD τ) a12 fullShare S.x12
    ∗ owns (c : Thread nD τ) a13 fullShare S.x13 ∗ R)

variable (R : sProp (MT nD τ sig Ix (Elt F) Name U Lvl)) (S : St F)

/-- Buffer 1 taken out of all that is held. -/
theorem foc1 : Foc c (Own c a1 a2 a3 a4 a5 a6 a7 a8 a9 a10 a11 a12 a13 R S) a1 S.x1 fun Y => Own c a1 a2 a3 a4 a5 a6 a7 a8 a9 a10 a11 a12 a13 R { S with x1 := Y } := by
  unfold Foc Own; dsimp only; iintro ⟨H1, H2, H3, H4, H5, H6, H7, H8, H9, H10, H11, H12, H13, HR⟩
  isplitl [H1]
  · iexact H1
  iintro %Y HY; iframe

/-- Buffer 2 taken out of all that is held. -/
theorem foc2 : Foc c (Own c a1 a2 a3 a4 a5 a6 a7 a8 a9 a10 a11 a12 a13 R S) a2 S.x2 fun Y => Own c a1 a2 a3 a4 a5 a6 a7 a8 a9 a10 a11 a12 a13 R { S with x2 := Y } := by
  unfold Foc Own; dsimp only; iintro ⟨H1, H2, H3, H4, H5, H6, H7, H8, H9, H10, H11, H12, H13, HR⟩
  isplitl [H2]
  · iexact H2
  iintro %Y HY; iframe

/-- Buffer 3 taken out of all that is held. -/
theorem foc3 : Foc c (Own c a1 a2 a3 a4 a5 a6 a7 a8 a9 a10 a11 a12 a13 R S) a3 S.x3 fun Y => Own c a1 a2 a3 a4 a5 a6 a7 a8 a9 a10 a11 a12 a13 R { S with x3 := Y } := by
  unfold Foc Own; dsimp only; iintro ⟨H1, H2, H3, H4, H5, H6, H7, H8, H9, H10, H11, H12, H13, HR⟩
  isplitl [H3]
  · iexact H3
  iintro %Y HY; iframe

/-- Buffer 4 taken out of all that is held. -/
theorem foc4 : Foc c (Own c a1 a2 a3 a4 a5 a6 a7 a8 a9 a10 a11 a12 a13 R S) a4 S.x4 fun Y => Own c a1 a2 a3 a4 a5 a6 a7 a8 a9 a10 a11 a12 a13 R { S with x4 := Y } := by
  unfold Foc Own; dsimp only; iintro ⟨H1, H2, H3, H4, H5, H6, H7, H8, H9, H10, H11, H12, H13, HR⟩
  isplitl [H4]
  · iexact H4
  iintro %Y HY; iframe

/-- Buffer 5 taken out of all that is held. -/
theorem foc5 : Foc c (Own c a1 a2 a3 a4 a5 a6 a7 a8 a9 a10 a11 a12 a13 R S) a5 S.x5 fun Y => Own c a1 a2 a3 a4 a5 a6 a7 a8 a9 a10 a11 a12 a13 R { S with x5 := Y } := by
  unfold Foc Own; dsimp only; iintro ⟨H1, H2, H3, H4, H5, H6, H7, H8, H9, H10, H11, H12, H13, HR⟩
  isplitl [H5]
  · iexact H5
  iintro %Y HY; iframe

/-- Buffer 6 taken out of all that is held. -/
theorem foc6 : Foc c (Own c a1 a2 a3 a4 a5 a6 a7 a8 a9 a10 a11 a12 a13 R S) a6 S.x6 fun Y => Own c a1 a2 a3 a4 a5 a6 a7 a8 a9 a10 a11 a12 a13 R { S with x6 := Y } := by
  unfold Foc Own; dsimp only; iintro ⟨H1, H2, H3, H4, H5, H6, H7, H8, H9, H10, H11, H12, H13, HR⟩
  isplitl [H6]
  · iexact H6
  iintro %Y HY; iframe

/-- Buffer 7 taken out of all that is held. -/
theorem foc7 : Foc c (Own c a1 a2 a3 a4 a5 a6 a7 a8 a9 a10 a11 a12 a13 R S) a7 S.x7 fun Y => Own c a1 a2 a3 a4 a5 a6 a7 a8 a9 a10 a11 a12 a13 R { S with x7 := Y } := by
  unfold Foc Own; dsimp only; iintro ⟨H1, H2, H3, H4, H5, H6, H7, H8, H9, H10, H11, H12, H13, HR⟩
  isplitl [H7]
  · iexact H7
  iintro %Y HY; iframe

/-- Buffer 8 taken out of all that is held. -/
theorem foc8 : Foc c (Own c a1 a2 a3 a4 a5 a6 a7 a8 a9 a10 a11 a12 a13 R S) a8 S.x8 fun Y => Own c a1 a2 a3 a4 a5 a6 a7 a8 a9 a10 a11 a12 a13 R { S with x8 := Y } := by
  unfold Foc Own; dsimp only; iintro ⟨H1, H2, H3, H4, H5, H6, H7, H8, H9, H10, H11, H12, H13, HR⟩
  isplitl [H8]
  · iexact H8
  iintro %Y HY; iframe

/-- Buffer 9 taken out of all that is held. -/
theorem foc9 : Foc c (Own c a1 a2 a3 a4 a5 a6 a7 a8 a9 a10 a11 a12 a13 R S) a9 S.x9 fun Y => Own c a1 a2 a3 a4 a5 a6 a7 a8 a9 a10 a11 a12 a13 R { S with x9 := Y } := by
  unfold Foc Own; dsimp only; iintro ⟨H1, H2, H3, H4, H5, H6, H7, H8, H9, H10, H11, H12, H13, HR⟩
  isplitl [H9]
  · iexact H9
  iintro %Y HY; iframe

/-- Buffer 10 taken out of all that is held. -/
theorem foc10 : Foc c (Own c a1 a2 a3 a4 a5 a6 a7 a8 a9 a10 a11 a12 a13 R S) a10 S.x10 fun Y => Own c a1 a2 a3 a4 a5 a6 a7 a8 a9 a10 a11 a12 a13 R { S with x10 := Y } := by
  unfold Foc Own; dsimp only; iintro ⟨H1, H2, H3, H4, H5, H6, H7, H8, H9, H10, H11, H12, H13, HR⟩
  isplitl [H10]
  · iexact H10
  iintro %Y HY; iframe

/-- Buffer 11 taken out of all that is held. -/
theorem foc11 : Foc c (Own c a1 a2 a3 a4 a5 a6 a7 a8 a9 a10 a11 a12 a13 R S) a11 S.x11 fun Y => Own c a1 a2 a3 a4 a5 a6 a7 a8 a9 a10 a11 a12 a13 R { S with x11 := Y } := by
  unfold Foc Own; dsimp only; iintro ⟨H1, H2, H3, H4, H5, H6, H7, H8, H9, H10, H11, H12, H13, HR⟩
  isplitl [H11]
  · iexact H11
  iintro %Y HY; iframe

/-- Buffer 12 taken out of all that is held. -/
theorem foc12 : Foc c (Own c a1 a2 a3 a4 a5 a6 a7 a8 a9 a10 a11 a12 a13 R S) a12 S.x12 fun Y => Own c a1 a2 a3 a4 a5 a6 a7 a8 a9 a10 a11 a12 a13 R { S with x12 := Y } := by
  unfold Foc Own; dsimp only; iintro ⟨H1, H2, H3, H4, H5, H6, H7, H8, H9, H10, H11, H12, H13, HR⟩
  isplitl [H12]
  · iexact H12
  iintro %Y HY; iframe

/-- Buffer 13 taken out of all that is held. -/
theorem foc13 : Foc c (Own c a1 a2 a3 a4 a5 a6 a7 a8 a9 a10 a11 a12 a13 R S) a13 S.x13 fun Y => Own c a1 a2 a3 a4 a5 a6 a7 a8 a9 a10 a11 a12 a13 R { S with x13 := Y } := by
  unfold Foc Own; dsimp only; iintro ⟨H1, H2, H3, H4, H5, H6, H7, H8, H9, H10, H11, H12, H13, HR⟩
  isplitl [H13]
  · iexact H13
  iintro %Y HY; iframe

/-- A loop of pieces, each with its function of the buffers, runs to the iterate of the functions. -/
theorem wp_loop {N : ℕ} {P : Fin N → Pg nD τ sig Λ F → Pg nD τ sig Λ F} {f : Fin N → St F → St F}
    (h : ∀ (i : Fin N) (K : Pg nD τ sig Λ F) (S : St F), (Own c a1 a2 a3 a4 a5 a6 a7 a8 a9 a10 a11 a12 a13 R (f i S) ⊢ wp frame (wpE defs 𝒱 c bd) E K Q) → Own c a1 a2 a3 a4 a5 a6 a7 a8 a9 a10 a11 a12 a13 R S ⊢ wp frame (wpE defs 𝒱 c bd) E (P i K) Q) :
    ∀ (n : ℕ) (hn : n ≤ N) (K : Pg nD τ sig Λ F) (S : St F), (Own c a1 a2 a3 a4 a5 a6 a7 a8 a9 a10 a11 a12 a13 R (iter N f n hn S) ⊢ wp frame (wpE defs 𝒱 c bd) E K Q) → Own c a1 a2 a3 a4 a5 a6 a7 a8 a9 a10 a11 a12 a13 R S ⊢ wp frame (wpE defs 𝒱 c bd) E (loop N P n hn K) Q := by
  intro n
  induction n with
  | zero => intro hn K S hk; exact hk
  | succ n ih => intro hn K S hk; exact h _ _ _ (ih _ _ _ hk)

/-- The first grid point's stores leave the buffers at `initF`. -/
theorem wp_initP {K : Pg nD τ sig Λ F} {S : St F} (hk : Own c a1 a2 a3 a4 a5 a6 a7 a8 a9 a10 a11 a12 a13 R (initF S) ⊢ wp frame (wpE defs 𝒱 c bd) E K Q) : Own c a1 a2 a3 a4 a5 a6 a7 a8 a9 a10 a11 a12 a13 R S ⊢ wp frame (wpE defs 𝒱 c bd) E (initP a10 h10 a13 K) Q := by
  unfold initP
  refine ld_of 𝒱 c bd E (foc10 c a1 a2 a3 a4 a5 a6 a7 a8 a9 a10 a11 a12 a13 R _) rfl ?_
  refine st_of 𝒱 c bd E (foc10 c a1 a2 a3 a4 a5 a6 a7 a8 a9 a10 a11 a12 a13 R _) ?_
  refine ld_of 𝒱 c bd E (foc13 c a1 a2 a3 a4 a5 a6 a7 a8 a9 a10 a11 a12 a13 R _) rfl ?_
  refine st_of 𝒱 c bd E (foc13 c a1 a2 a3 a4 a5 a6 a7 a8 a9 a10 a11 a12 a13 R _) ?_
  exact hk

/-- The loop over a slab's groups adds their squares up as `sqF` does. -/
theorem wp_sqLoop (s : Fin 16) {S : St F} : ∀ (n : ℕ) (hn : n ≤ 41) (acc : FVec F T16x128 .f32) (K : FVec F T16x128 .f32 → Pg nD τ sig Λ F),
    (Own c a1 a2 a3 a4 a5 a6 a7 a8 a9 a10 a11 a12 a13 R S ⊢ wp frame (wpE defs 𝒱 c bd) E (K (sqF S.x10 s n hn acc)) Q) → Own c a1 a2 a3 a4 a5 a6 a7 a8 a9 a10 a11 a12 a13 R S ⊢ wp frame (wpE defs 𝒱 c bd) E (sqLoop a10 s n hn acc K) Q := by
  intro n
  induction n with
  | zero => intro hn acc K hk; exact hk
  | succ n ih =>
    intro hn acc K hk
    unfold sqLoop
    refine ld_of 𝒱 c bd E (foc10 c a1 a2 a3 a4 a5 a6 a7 a8 a9 a10 a11 a12 a13 R _) rfl ?_
    exact ih _ _ _ hk

/-- A slab's step leaves the buffers at `slabF`. -/
theorem wp_slabP {invn : F .f32} (s : Fin 16) (K : Pg nD τ sig Λ F) (S : St F) (hk : Own c a1 a2 a3 a4 a5 a6 a7 a8 a9 a10 a11 a12 a13 R (slabF invn s S) ⊢ wp frame (wpE defs 𝒱 c bd) E K Q) : Own c a1 a2 a3 a4 a5 a6 a7 a8 a9 a10 a11 a12 a13 R S ⊢ wp frame (wpE defs 𝒱 c bd) E (slabP a10 a12 invn s K) Q := by
  unfold slabP
  refine ld_of 𝒱 c bd E (foc10 c a1 a2 a3 a4 a5 a6 a7 a8 a9 a10 a11 a12 a13 R _) rfl ?_
  refine wp_sqLoop 𝒱 c bd E a1 a2 a3 a4 a5 a6 a7 a8 a9 a10 a11 a12 a13 R s _ _ _ _ ?_
  refine ld_of 𝒱 c bd E (foc12 c a1 a2 a3 a4 a5 a6 a7 a8 a9 a10 a11 a12 a13 R _) rfl ?_
  refine st_of 𝒱 c bd E (foc12 c a1 a2 a3 a4 a5 a6 a7 a8 a9 a10 a11 a12 a13 R _) ?_
  exact hk

/-- A half of the row scales leaves the buffers at `xsbF`. -/
theorem wp_xsbP (q : Fin 2) (K : Pg nD τ sig Λ F) (S : St F) (hk : Own c a1 a2 a3 a4 a5 a6 a7 a8 a9 a10 a11 a12 a13 R (xsbF q S) ⊢ wp frame (wpE defs 𝒱 c bd) E K Q) : Own c a1 a2 a3 a4 a5 a6 a7 a8 a9 a10 a11 a12 a13 R S ⊢ wp frame (wpE defs 𝒱 c bd) E (xsbP a2 a11 q K) Q := by
  unfold xsbP
  refine ld_of 𝒱 c bd E (foc2 c a1 a2 a3 a4 a5 a6 a7 a8 a9 a10 a11 a12 a13 R _) rfl ?_
  refine ld_of 𝒱 c bd E (foc11 c a1 a2 a3 a4 a5 a6 a7 a8 a9 a10 a11 a12 a13 R _) rfl ?_
  refine st_of 𝒱 c bd E (foc11 c a1 a2 a3 a4 a5 a6 a7 a8 a9 a10 a11 a12 a13 R _) ?_
  exact hk

/-- A tile's step leaves the buffers at `unitF`. -/
theorem wp_unitP (j : Fin 21) (g : Fin 2) (acc : FVec F T256x256 .f32) (gam ws : FVec F T1x128 .f32) (s : Fin 8) (K : Pg nD τ sig Λ F) (S : St F)
    (hk : Own c a1 a2 a3 a4 a5 a6 a7 a8 a9 a10 a11 a12 a13 R (unitF j g acc gam ws s S) ⊢ wp frame (wpE defs 𝒱 c bd) E K Q) : Own c a1 a2 a3 a4 a5 a6 a7 a8 a9 a10 a11 a12 a13 R S ⊢ wp frame (wpE defs 𝒱 c bd) E (unitP a5 a7 h7 a8 h8 a10 h10 a11 a12 a13 j g acc gam ws s K) Q := by
  unfold unitP
  refine ld_of 𝒱 c bd E (foc10 c a1 a2 a3 a4 a5 a6 a7 a8 a9 a10 a11 a12 a13 R _) rfl ?_
  refine ld_of 𝒱 c bd E (foc12 c a1 a2 a3 a4 a5 a6 a7 a8 a9 a10 a11 a12 a13 R _) rfl ?_
  refine ld_of 𝒱 c bd E (foc13 c a1 a2 a3 a4 a5 a6 a7 a8 a9 a10 a11 a12 a13 R _) rfl ?_
  refine st_of 𝒱 c bd E (foc13 c a1 a2 a3 a4 a5 a6 a7 a8 a9 a10 a11 a12 a13 R _) ?_
  refine ld_of 𝒱 c bd E (foc8 c a1 a2 a3 a4 a5 a6 a7 a8 a9 a10 a11 a12 a13 R _) rfl ?_
  refine st_of 𝒱 c bd E (foc8 c a1 a2 a3 a4 a5 a6 a7 a8 a9 a10 a11 a12 a13 R _) ?_
  refine ld_of 𝒱 c bd E (foc11 c a1 a2 a3 a4 a5 a6 a7 a8 a9 a10 a11 a12 a13 R _) rfl ?_
  refine ld_of 𝒱 c bd E (foc5 c a1 a2 a3 a4 a5 a6 a7 a8 a9 a10 a11 a12 a13 R _) rfl ?_
  refine ld_of 𝒱 c bd E (foc7 c a1 a2 a3 a4 a5 a6 a7 a8 a9 a10 a11 a12 a13 R _) rfl ?_
  refine st_of 𝒱 c bd E (foc7 c a1 a2 a3 a4 a5 a6 a7 a8 a9 a10 a11 a12 a13 R _) ?_
  refine ld_of 𝒱 c bd E (foc10 c a1 a2 a3 a4 a5 a6 a7 a8 a9 a10 a11 a12 a13 R _) rfl ?_
  refine st_of 𝒱 c bd E (foc10 c a1 a2 a3 a4 a5 a6 a7 a8 a9 a10 a11 a12 a13 R _) ?_
  exact hk

/-- A group's step leaves the buffers at `groupF`. -/
theorem wp_groupP (j : Fin 21) (acc : FVec F T256x256 .f32) (g : Fin 2) (K : Pg nD τ sig Λ F) (S : St F)
    (hk : Own c a1 a2 a3 a4 a5 a6 a7 a8 a9 a10 a11 a12 a13 R (groupF j acc g S) ⊢ wp frame (wpE defs 𝒱 c bd) E K Q) : Own c a1 a2 a3 a4 a5 a6 a7 a8 a9 a10 a11 a12 a13 R S ⊢ wp frame (wpE defs 𝒱 c bd) E (groupP a4 a5 a6 a7 h7 a8 h8 a10 h10 a11 a12 a13 j acc g K) Q := by
  unfold groupP
  refine ld_of 𝒱 c bd E (foc6 c a1 a2 a3 a4 a5 a6 a7 a8 a9 a10 a11 a12 a13 R _) rfl ?_
  refine ld_of 𝒱 c bd E (foc4 c a1 a2 a3 a4 a5 a6 a7 a8 a9 a10 a11 a12 a13 R _) rfl ?_
  exact wp_loop 𝒱 c bd E a1 a2 a3 a4 a5 a6 a7 a8 a9 a10 a11 a12 a13 R
    (fun s K S hk => wp_unitP 𝒱 c bd E a1 a2 a3 a4 a5 a6 a7 h7 a8 h8 a9 a10 h10 a11 a12 a13 R j g acc _ _ s K S hk) _ _ _ _ hk

/-- A step over 256 columns leaves the buffers at `colsF`. -/
theorem wp_colsP (j : Fin 21) (K : Pg nD τ sig Λ F) (S : St F)
    (hk : Own c a1 a2 a3 a4 a5 a6 a7 a8 a9 a10 a11 a12 a13 R (colsF j S) ⊢ wp frame (wpE defs 𝒱 c bd) E K Q) : Own c a1 a2 a3 a4 a5 a6 a7 a8 a9 a10 a11 a12 a13 R S ⊢ wp frame (wpE defs 𝒱 c bd) E (colsP a1 a3 a4 a5 a6 a7 h7 a8 h8 a10 h10 a11 a12 a13 j K) Q := by
  unfold colsP
  refine ld_of 𝒱 c bd E (foc1 c a1 a2 a3 a4 a5 a6 a7 a8 a9 a10 a11 a12 a13 R _) rfl ?_
  refine ld_of 𝒱 c bd E (foc3 c a1 a2 a3 a4 a5 a6 a7 a8 a9 a10 a11 a12 a13 R _) rfl ?_
  exact wp_loop 𝒱 c bd E a1 a2 a3 a4 a5 a6 a7 a8 a9 a10 a11 a12 a13 R
    (fun g K S hk => wp_groupP 𝒱 c bd E a1 a2 a3 a4 a5 a6 a7 h7 a8 h8 a9 a10 h10 a11 a12 a13 R j _ g K S hk) _ _ _ _ hk

/-- The last step leaves the buffers at `scaleF`. -/
theorem wp_scaleP (S : St F) (hk : Own c a1 a2 a3 a4 a5 a6 a7 a8 a9 a10 a11 a12 a13 R (scaleF S) ⊢ wp frame (wpE defs 𝒱 c bd) E (.ret ⟨⟩) Q) : Own c a1 a2 a3 a4 a5 a6 a7 a8 a9 a10 a11 a12 a13 R S ⊢ wp frame (wpE defs 𝒱 c bd) E (scaleP a9 a13) Q := by
  unfold scaleP
  refine ld_of 𝒱 c bd E (foc13 c a1 a2 a3 a4 a5 a6 a7 a8 a9 a10 a11 a12 a13 R _) rfl ?_
  refine ld_of 𝒱 c bd E (foc9 c a1 a2 a3 a4 a5 a6 a7 a8 a9 a10 a11 a12 a13 R _) rfl ?_
  refine st_of 𝒱 c bd E (foc9 c a1 a2 a3 a4 a5 a6 a7 a8 a9 a10 a11 a12 a13 R _) ?_
  exact hk

/-- The body after the first grid point's two stores leaves the buffers at `mainF` of what they held. -/
theorem wp_mainP (invn : F .f32) (S : St F) (hk : Own c a1 a2 a3 a4 a5 a6 a7 a8 a9 a10 a11 a12 a13 R (mainF invn S) ⊢ wp frame (wpE defs 𝒱 c bd) E (.ret ⟨⟩) Q) :
    Own c a1 a2 a3 a4 a5 a6 a7 a8 a9 a10 a11 a12 a13 R S ⊢ wp frame (wpE defs 𝒱 c bd) E (mainP a1 a2 a3 a4 a5 a6 a7 h7 a8 h8 a9 a10 h10 a11 a12 a13 invn) Q := by
  unfold mainP
  refine wp_loop 𝒱 c bd E a1 a2 a3 a4 a5 a6 a7 a8 a9 a10 a11 a12 a13 R (wp_slabP 𝒱 c bd E a1 a2 a3 a4 a5 a6 a7 a8 a9 a10 a11 a12 a13 R) _ _ _ _ ?_
  refine wp_loop 𝒱 c bd E a1 a2 a3 a4 a5 a6 a7 a8 a9 a10 a11 a12 a13 R (wp_xsbP 𝒱 c bd E a1 a2 a3 a4 a5 a6 a7 a8 a9 a10 a11 a12 a13 R) _ _ _ _ ?_
  refine wp_loop 𝒱 c bd E a1 a2 a3 a4 a5 a6 a7 a8 a9 a10 a11 a12 a13 R (wp_colsP 𝒱 c bd E a1 a2 a3 a4 a5 a6 a7 h7 a8 h8 a9 a10 h10 a11 a12 a13 R) _ _ _ _ ?_
  exact wp_scaleP 𝒱 c bd E a1 a2 a3 a4 a5 a6 a7 a8 a9 a10 a11 a12 a13 R _ hk

/-- The thirteen buffers held at what `S` says. -/
def Held (S : St F) : sProp 𝕄 :=
  iprop(owns (c : Thread nD τ) a1 fullShare S.x1 ∗ owns (c : Thread nD τ) a2 fullShare S.x2 ∗ owns (c : Thread nD τ) a3 fullShare S.x3
    ∗ owns (c : Thread nD τ) a4 fullShare S.x4 ∗ owns (c : Thread nD τ) a5 fullShare S.x5 ∗ owns (c : Thread nD τ) a6 fullShare S.x6
    ∗ owns (c : Thread nD τ) a7 fullShare S.x7 ∗ owns (c : Thread nD τ) a8 fullShare S.x8 ∗ owns (c : Thread nD τ) a9 fullShare S.x9
    ∗ owns (c : Thread nD τ) a10 fullShare S.x10 ∗ owns (c : Thread nD τ) a11 fullShare S.x11 ∗ owns (c : Thread nD τ) a12 fullShare S.x12
    ∗ owns (c : Thread nD τ) a13 fullShare S.x13)

/-- The buffers and the rest, held together. -/
theorem own_of_held : iprop(Held c a1 a2 a3 a4 a5 a6 a7 a8 a9 a10 a11 a12 a13 S ∗ R) ⊢ Own c a1 a2 a3 a4 a5 a6 a7 a8 a9 a10 a11 a12 a13 R S := by
  unfold Held Own; iintro ⟨⟨H1, H2, H3, H4, H5, H6, H7, H8, H9, H10, H11, H12, H13⟩, HR⟩; iframe

/-- What is held, taken apart into the buffers and the rest. -/
theorem held_of_own : Own c a1 a2 a3 a4 a5 a6 a7 a8 a9 a10 a11 a12 a13 R S ⊢ iprop(Held c a1 a2 a3 a4 a5 a6 a7 a8 a9 a10 a11 a12 a13 S ∗ R) := by
  unfold Held Own; iintro ⟨H1, H2, H3, H4, H5, H6, H7, H8, H9, H10, H11, H12, H13, HR⟩; iframe

/-- What is left when the body has run: the continuation applied to what the buffers hold. -/
theorem wp_done : Own c a1 a2 a3 a4 a5 a6 a7 a8 a9 a10 a11 a12 a13 iprop(Held c a1 a2 a3 a4 a5 a6 a7 a8 a9 a10 a11 a12 a13 S -∗ Q ⟨⟩) S ⊢ wp frame (wpE defs 𝒱 c bd) E (.ret ⟨⟩) Q := by
  refine (held_of_own c a1 a2 a3 a4 a5 a6 a7 a8 a9 a10 a11 a12 a13 _ S).trans ?_
  rw [wp_ret]
  iintro ⟨H, Hk⟩
  imodintro
  iapply Hk $$ H

/-- The body after the first grid point: from the buffers held at `S` to the continuation with them at `mainF` of it. -/
theorem run_B (invn : F .f32) : iprop(Held c a1 a2 a3 a4 a5 a6 a7 a8 a9 a10 a11 a12 a13 S ∗ (Held c a1 a2 a3 a4 a5 a6 a7 a8 a9 a10 a11 a12 a13 (mainF invn S) -∗ Q ⟨⟩)) ⊢ wp frame (wpE defs 𝒱 c bd) E (mainP a1 a2 a3 a4 a5 a6 a7 h7 a8 h8 a9 a10 h10 a11 a12 a13 invn) Q :=
  (own_of_held c a1 a2 a3 a4 a5 a6 a7 a8 a9 a10 a11 a12 a13 _ S).trans
    (wp_mainP 𝒱 c bd E a1 a2 a3 a4 a5 a6 a7 h7 a8 h8 a9 a10 h10 a11 a12 a13 _ invn S (wp_done 𝒱 c bd E a1 a2 a3 a4 a5 a6 a7 a8 a9 a10 a11 a12 a13 _))

/-- The body at the first grid point: the same after the two initial stores. -/
theorem run_A (invn : F .f32) : iprop(Held c a1 a2 a3 a4 a5 a6 a7 a8 a9 a10 a11 a12 a13 S ∗ (Held c a1 a2 a3 a4 a5 a6 a7 a8 a9 a10 a11 a12 a13 (mainF invn (initF S)) -∗ Q ⟨⟩)) ⊢ wp frame (wpE defs 𝒱 c bd) E (initP a10 h10 a13 (mainP a1 a2 a3 a4 a5 a6 a7 h7 a8 h8 a9 a10 h10 a11 a12 a13 invn)) Q :=
  (own_of_held c a1 a2 a3 a4 a5 a6 a7 a8 a9 a10 a11 a12 a13 _ S).trans
    (wp_initP 𝒱 c bd E a1 a2 a3 a4 a5 a6 a7 a8 a9 a10 h10 a11 a12 a13 _
      (wp_mainP 𝒱 c bd E a1 a2 a3 a4 a5 a6 a7 h7 a8 h8 a9 a10 h10 a11 a12 a13 _ invn _ (wp_done 𝒱 c bd E a1 a2 a3 a4 a5 a6 a7 a8 a9 a10 a11 a12 a13 _)))

end

end Cert.Body

end
-- ==== Proof.Keep.lean ====
/- What the body leaves alone: the six operands. -/
module

public import proofs.«01_k».proof.Proof.Exec

@[expose] public section

noncomputable section

namespace Cert.Body

open Idealize.ShloMosaic

variable {F : FTy → Type} [FloatOps F]

/-- An invariant of a loop's steps holds when the loop is done. -/
theorem iter_ind {α : Type} {N : ℕ} {f : Fin N → α → α} {P : ℕ → α → Prop} (hs : ∀ (i : Fin N) (b : α), P i.val b → P (i.val + 1) (f i b)) :
    ∀ (n : ℕ) (h : n ≤ N) (a : α), P (N - n) a → P N (iter N f n h a)
  | 0, _, a, ha => ha
  | n + 1, h, a, ha => iter_ind hs n (by omega) _ (by
      have := hs ⟨N - (n + 1), by omega⟩ a ha
      rwa [show N - (n + 1) + 1 = N - n by omega] at this)

/-- The six operands of `T` are those of `S`. -/
structure Same (S T : St F) : Prop where
  e1 : T.x1 = S.x1
  e2 : T.x2 = S.x2
  e3 : T.x3 = S.x3
  e4 : T.x4 = S.x4
  e5 : T.x5 = S.x5
  e6 : T.x6 = S.x6

/-- The operands are the same as themselves. -/
theorem Same.refl (S : St F) : Same S S := ⟨rfl, rfl, rfl, rfl, rfl, rfl⟩

/-- Twice left alone is left alone. -/
theorem Same.trans {S T U : St F} (h : Same S T) (g : Same T U) : Same S U :=
  ⟨g.e1.trans h.e1, g.e2.trans h.e2, g.e3.trans h.e3, g.e4.trans h.e4, g.e5.trans h.e5, g.e6.trans h.e6⟩

/-- A loop leaves the operands alone if its step does. -/
theorem same_iter {N : ℕ} {f : Fin N → St F → St F} (hf : ∀ i S, Same S (f i S)) (n : ℕ) (h : n ≤ N) (S : St F) : Same S (iter N f n h S) :=
  iter_ind (P := fun _ T => Same S T) (fun i b hb => hb.trans (hf i b)) n h S (Same.refl S)

/-- The first stores leave the operands alone. -/
theorem same_initF (S : St F) : Same S (initF S) := ⟨rfl, rfl, rfl, rfl, rfl, rfl⟩

/-- A slab leaves the operands alone. -/
theorem same_slabF (invn : F .f32) (s : Fin 16) (S : St F) : Same S (slabF invn s S) := ⟨rfl, rfl, rfl, rfl, rfl, rfl⟩
/-- The row scales' spreading leaves the operands alone. -/
theorem same_xsbF (q : Fin 2) (S : St F) : Same S (xsbF q S) := ⟨rfl, rfl, rfl, rfl, rfl, rfl⟩
/-- A tile leaves the operands alone. -/
theorem same_unitF (j : Fin 21) (c : Fin 2) (acc : FVec F T256x256 .f32) (gam ws : FVec F T1x128 .f32) (s : Fin 8) (S : St F) :
    Same S (unitF j c acc gam ws s S) := ⟨rfl, rfl, rfl, rfl, rfl, rfl⟩
/-- The last step leaves the operands alone. -/
theorem same_scaleF (S : St F) : Same S (scaleF S) := ⟨rfl, rfl, rfl, rfl, rfl, rfl⟩

/-- A group leaves the operands alone. -/
theorem same_groupF (j : Fin 21) (acc : FVec F T256x256 .f32) (c : Fin 2) (S : St F) : Same S (groupF j acc c S) := by
  unfold groupF; exact same_iter (same_unitF j c acc _ _) 8 _ S

/-- 256 columns leave the operands alone. -/
theorem same_colsF (j : Fin 21) (S : St F) : Same S (colsF j S) := by
  unfold colsF; exact same_iter (same_groupF j _) 2 _ S

/-- The body leaves its six operands as they are. -/
theorem same_mainF (invn : F .f32) (S : St F) : Same S (mainF invn S) := by
  unfold mainF
  refine Same.trans ?_ (same_scaleF _)
  refine Same.trans ?_ (same_iter same_colsF 21 _ _)
  refine Same.trans ?_ (same_iter same_xsbF 2 _ _)
  exact same_iter (same_slabF invn) 16 _ S

end Cert.Body

end
-- ==== Proof.RunK.lean ====
/- The kernel's run, nothing said of what the outputs hold: the body's triple at every point, the launch, the frame. -/
module

public import proofs.«01_k».proof.Proof.KitK
public import proofs.«01_k».proof.Proof.BodyEqK
public import proofs.«01_k».proof.Proof.Keep
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows this certificate FORGETS (6, 7, 8): nothing reads what the kernel leaves in them, so nothing
    of it is named. -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (`ΦA`: every scratch at anything);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in window 1's staging buffer. -/
theorem after0_1 (c : Dev nD) (t : Fin cfg0.N) : (dats m 0 c).after 1 t = iblk m c 1 t := by dsimp only [dats]
/-- What the body leaves in window 2's staging buffer. -/
theorem after0_2 (c : Dev nD) (t : Fin cfg0.N) : (dats m 0 c).after 2 t = iblk m c 2 t := by dsimp only [dats]
/-- What the body leaves in window 3's staging buffer. -/
theorem after0_3 (c : Dev nD) (t : Fin cfg0.N) : (dats m 0 c).after 3 t = iblk m c 3 t := by dsimp only [dats]
/-- What the body leaves in window 4's staging buffer. -/
theorem after0_4 (c : Dev nD) (t : Fin cfg0.N) : (dats m 0 c).after 4 t = iblk m c 4 t := by dsimp only [dats]
/-- What the body leaves in window 5's staging buffer. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1's staging buffer holds before the body: its block. -/
theorem before0_1 (c : Dev nD) (t : Fin cfg0.N) (d) : (dats m 0 c).before 1 t d = iblk m c 1 t :=
  before0_1_of m (dats m 0 c) (A_eq m c 1) (after0_1 m c) t d
/-- What window 2's staging buffer holds before the body: its block. -/
theorem before0_2 (c : Dev nD) (t : Fin cfg0.N) (d) : (dats m 0 c).before 2 t d = iblk m c 2 t :=
  before0_2_of m (dats m 0 c) (A_eq m c 2) (after0_2 m c) t d
/-- What window 3's staging buffer holds before the body: its block. -/
theorem before0_3 (c : Dev nD) (t : Fin cfg0.N) (d) : (dats m 0 c).before 3 t d = iblk m c 3 t :=
  before0_3_of m (dats m 0 c) (A_eq m c 3) (after0_3 m c) t d
/-- What window 4's staging buffer holds before the body: its block. -/
theorem before0_4 (c : Dev nD) (t : Fin cfg0.N) (d) : (dats m 0 c).before 4 t d = iblk m c 4 t :=
  before0_4_of m (dats m 0 c) (A_eq m c 4) (after0_4 m c) t d
/-- What window 5's staging buffer holds before the body: its block. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- The constant the mean square is taken with. -/
abbrev invn : F .f32 := Scalar.ofBits .f32 0x39430C31#32

set_option maxHeartbeats 4000000 in
/-- What the body leaves is what is returned: the operands as they were, the rest at anything. -/
theorem post_of (c : Dev nD) (t : Fin cfg0.N) (S T : Body.St F) (h : Body.Same S T)
    (k1 : S.x1 = iblk m c 0 t) (k2 : S.x2 = iblk m c 1 t) (k3 : S.x3 = iblk m c 2 t) (k4 : S.x4 = iblk m c 3 t) (k5 : S.x5 = iblk m c 4 t) (k6 : S.x6 = iblk m c 5 t) (R : sProp 𝕄) :
    iprop(Body.Held c (ms0_0 t) (ms0_1 t) (ms0_2 t) (ms0_3 t) (ms0_4 t) (ms0_5 t) (ms0_6 t) (ms0_7 t) (ms0_8 t) scM0_0 scM0_1 scM0_2 scM0_3 T ∗ R ∗ (∃ r, prngReg c r)) ⊢
    (iprop(Pipeline.ΦA spec0 c ∗ R
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)) : sProp 𝕄) := by
  obtain ⟨x1, x2, x3, x4, x5, x6, x7, x8, x9, x10, x11, x12, x13⟩ := T
  obtain ⟨e1, e2, e3, e4, e5, e6⟩ := h
  dsimp only at e1 e2 e3 e4 e5 e6
  rw [← k1, ← k2, ← k3, ← k4, ← k5, ← k6, ← e1, ← e2, ← e3, ← e4, ← e5, ← e6, PhiA0_eq]
  unfold Body.Held; dsimp only
  iintro ⟨⟨H0, H1, H2, H3, H4, H5, H6, H7, H8, HS0, HS1, HS2, HS3⟩, Ho, Hg⟩
  isplitl [HS0 HS1 HS2 HS3 Hg]
  · isplitl [HS0 HS1 HS2 HS3]
    · isplitl [HS0]; · iexists _; iexact HS0
      isplitl [HS1]; · iexists _; iexact HS1
      isplitl [HS2]; · iexists _; iexact HS2
      iexists _; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

set_option maxHeartbeats 4000000 in
/-- The body at a point, from its buffers held: with the buffers at what it leaves, whatever that is. -/
theorem triple_at (c : Dev nD) (t : Fin cfg0.N) (S : Body.St F) (Q : PUnit → sProp 𝕄) :
    iprop(Body.Held c (ms0_0 t) (ms0_1 t) (ms0_2 t) (ms0_3 t) (ms0_4 t) (ms0_5 t) (ms0_6 t) (ms0_7 t) (ms0_8 t) scM0_0 scM0_1 scM0_2 scM0_3 S
      ∗ (∀ T, ⌜Body.Same S T⌝ -∗ Body.Held c (ms0_0 t) (ms0_1 t) (ms0_2 t) (ms0_3 t) (ms0_4 t) (ms0_5 t) (ms0_6 t) (ms0_7 t) (ms0_8 t) scM0_0 scM0_1 scM0_2 scM0_3 T -∗ Q ⟨⟩))
      ⊢ wp frame (wpE (defs₀ (F := F)) Variants.none c none) Set.univ (bodyAt0 t) Q := by
  by_cases h0 : t.val % 65 = 0
  · rw [show bodyAt0 (F := F) t = _ from body_A (grid0.coords t) _ _ _ _ _ _ _ _ _ _ _ _ _ _ _ _ _ _ _ _ _ _ _ _ _ _ ((hcond0_0 t).mpr h0)]
    refine BIBase.Entails.trans ?_ (Body.run_A Variants.none c none Set.univ _ _ _ _ _ _ _ _ _ _ _ _ _ _ _ _ S invn)
    iintro ⟨H, Hk⟩
    isplitl [H]; · iexact H
    iapply Hk
    ipureintro
    exact (Body.same_initF S).trans (Body.same_mainF _ _)
  · rw [show bodyAt0 (F := F) t = _ from body_B (grid0.coords t) _ _ _ _ _ _ _ _ _ _ _ _ _ _ _ _ _ _ _ _ _ _ _ _ _ _ (fun h => h0 ((hcond0_0 t).mp h))]
    refine BIBase.Entails.trans ?_ (Body.run_B Variants.none c none Set.univ _ _ _ _ _ _ _ _ _ _ _ _ _ _ _ _ S invn)
    iintro ⟨H, Hk⟩
    isplitl [H]; · iexact H
    iapply Hk
    ipureintro
    exact Body.same_mainF _ _

set_option maxHeartbeats 4000000 in
/-- The body at any point: the operands' memrefs hold their blocks, the outputs and the scratch anything; so it runs, and returns them so. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl]
  generalize (dats m 0 c).owesAt () t.castSucc = R
  conv_lhs => rw [PhiA0_eq]
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply triple_at c t ⟨iblk m c 0 t, iblk m c 1 t, iblk m c 2 t, iblk m c 3 t, iblk m c 4 t, iblk m c 5 t, d6, d7, d8, e0, e1, e2, e3⟩
  isplitl [H0 H1 H2 H3 H4 H5 H6 H7 H8 HS0 HS1 HS2 HS3]
  · unfold Body.Held; dsimp only
    iframe
  iintro %T %hT H
  iapply post_of m c t _ T hT rfl rfl rfl rfl rfl rfl R
  iframe

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_track_forget`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => Idealize.SL.BI.Entails.refl _) (hout := fun _ => Idealize.SL.BI.Entails.refl _)

/-- At the compiled mesh, for any values, from any memory with zero counters: every weakly fair execution of @main on the
    TensorCores terminates, and every final state has every INPUT array of the pipeline unchanged, nothing stated of the
    FORGOTTEN outputs (windows 6, 7, 8), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.Kit.lean ====
/- What the run of the kernel needs besides the body: the arrays as the region finds them, the windows' blocks, the frame from a
   frame run, the branch's condition in closed form, the staging memrefs. -/
module

public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the region make no buffers of their own. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0, from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, e0]
    word_cmp
   : ∀ t : Fin grid0.N, cond0_0 (grid0.coords t) ↔ t.val % 65 = 0)

/-! ## The staging memrefs -/

/-- Each window's current staging memref at point `t`, spelled as the pipeline passes it (`bodyAt0`), and its wholeness. -/
abbrev ms0_0 (t : Fin cfg0.N) : Memref sig .tc .vmem S256x1280 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x5376 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5376 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x5376 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5376 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x5376 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x5376 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x42 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x5376 .bf16 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
/-- The scratch `arg10` the kernel carries between points, as a view: what it holds is stated through it. -/
abbrev VS0_0 : View sig .tc .vmem S256x5376 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Run

end
-- ==== Proof.BodyEq.lean ====
/- The printed body is the loops of `Body`. -/
module

public import proofs.«01_k».proof.KernelIdeal
public import proofs.«01_k».proof.Proof.Body

@[expose] public section

set_option Elab.async false

namespace Cert.KernelIdeal

open Idealize.ShloMosaic Idealize.SL.Sem

variable {F : FTy → Type} [FloatOps F] [Named F] [Facts]

set_option maxRecDepth 1000000 in
set_option maxHeartbeats 0 in
/-- At the first grid point the printed body is the same after the two initial stores. -/
theorem body_A (i : grid0.Coords) (arg1 : Memref sig .tc .vmem S256x1280 .fp8e4m3) (harg1 : arg1.IsWhole) (arg2 : Memref sig .tc .vmem S1x1x256 .f32) (harg2 : arg2.IsWhole) (arg3 : Memref sig .tc .vmem S1280x5376 .fp8e4m3) (harg3 : arg3.IsWhole) (arg4 : Memref sig .tc .vmem S1x5376 .f32) (harg4 : arg4.IsWhole) (arg5 : Memref sig .tc .vmem S256x5376 .bf16) (harg5 : arg5.IsWhole) (arg6 : Memref sig .tc .vmem S1x5376 .bf16) (harg6 : arg6.IsWhole) (arg7 : Memref sig .tc .vmem S256x5376 .bf16) (harg7 : arg7.IsWhole) (arg8 : Memref sig .tc .vmem S256x5376 .fp8e4m3) (harg8 : arg8.IsWhole) (arg9 : Memref sig .tc .vmem S256x42 .f32) (harg9 : arg9.IsWhole) (arg10 : Memref sig .tc .vmem S256x5376 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (hc : (Scalar.cmpi .ne (Scalar.extui (Scalar.cmpi .eq (BitVec.ofNat 32 (i 0).val) 0#32)) 0#32 : BitVec 1) = 1#1) :
    cc0_proj_residual_rmsnorm_fp8 (F := F) i arg1 harg1 arg2 harg2 arg3 harg3 arg4 harg4 arg5 harg5 arg6 harg6 arg7 harg7 arg8 harg8 arg9 harg9 arg10 harg10 arg11 harg11 arg12 harg12 arg13 harg13
      = Body.initP (nD := nD) (τ := τ) (Λ := Λ₀) arg10 harg10 arg13 (Body.mainP arg1 arg2 arg3 arg4 arg5 arg6 arg7 harg7 arg8 harg8 arg9 arg10 harg10 arg11 arg12 arg13 (Named.named κ "inv_n" 0x39430C31#32)) := by
  unfold cc0_proj_residual_rmsnorm_fp8 k0_part558 k0_part1
  simp only [dif_pos hc]
  rfl

set_option maxRecDepth 1000000 in
set_option maxHeartbeats 0 in
/-- After the first grid point the printed body is the loops. -/
theorem body_B (i : grid0.Coords) (arg1 : Memref sig .tc .vmem S256x1280 .fp8e4m3) (harg1 : arg1.IsWhole) (arg2 : Memref sig .tc .vmem S1x1x256 .f32) (harg2 : arg2.IsWhole) (arg3 : Memref sig .tc .vmem S1280x5376 .fp8e4m3) (harg3 : arg3.IsWhole) (arg4 : Memref sig .tc .vmem S1x5376 .f32) (harg4 : arg4.IsWhole) (arg5 : Memref sig .tc .vmem S256x5376 .bf16) (harg5 : arg5.IsWhole) (arg6 : Memref sig .tc .vmem S1x5376 .bf16) (harg6 : arg6.IsWhole) (arg7 : Memref sig .tc .vmem S256x5376 .bf16) (harg7 : arg7.IsWhole) (arg8 : Memref sig .tc .vmem S256x5376 .fp8e4m3) (harg8 : arg8.IsWhole) (arg9 : Memref sig .tc .vmem S256x42 .f32) (harg9 : arg9.IsWhole) (arg10 : Memref sig .tc .vmem S256x5376 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole)
    (hc : ¬ (Scalar.cmpi .ne (Scalar.extui (Scalar.cmpi .eq (BitVec.ofNat 32 (i 0).val) 0#32)) 0#32 : BitVec 1) = 1#1) :
    cc0_proj_residual_rmsnorm_fp8 (F := F) i arg1 harg1 arg2 harg2 arg3 harg3 arg4 harg4 arg5 harg5 arg6 harg6 arg7 harg7 arg8 harg8 arg9 harg9 arg10 harg10 arg11 harg11 arg12 harg12 arg13 harg13
      = Body.mainP (nD := nD) (τ := τ) (Λ := Λ₀) arg1 arg2 arg3 arg4 arg5 arg6 arg7 harg7 arg8 harg8 arg9 arg10 harg10 arg11 arg12 arg13 (Named.named κ "inv_n" 0x39430C31#32) := by
  unfold cc0_proj_residual_rmsnorm_fp8 k0_part558 k0_part1
  simp only [dif_neg hc]
  rfl

end Cert.KernelIdeal

end
-- ==== Proof.Vals.lean ====
/- What the body leaves in its outputs and its kept rows, position by position. -/
module

public import proofs.«01_k».proof.Proof.Keep
public import Idealize.ShloMosaic.Lib.Pointwise.Index
public import Idealize.ShloMosaic.Lib.Pipeline.Value

@[expose] public section

noncomputable section

namespace Cert.Body

open Idealize.ShloMosaic

variable {F : FTy → Type} [FloatOps F]

/-! ## Tiles of rank two -/

section
variable {α : Type} {m n a b r q : ℕ}

/-- A put tile read inside it. -/
theorem put2_in (x : (⟨2, ![m, n]⟩ : Shape).Idx → α) (w : (⟨2, ![a, b]⟩ : Shape).Idx → α) (y : (⟨2, ![m, n]⟩ : Shape).Idx) (i : Fin a) (l : Fin b)
    (h0 : (y 0).val = r + i.val) (h1 : (y 1).val = q + l.val) :
    VecWindow.put x ![r, q] (⟨2, ![a, b]⟩ : Shape).size w y = w (ix2 i l) := by
  have hi := i.isLt
  have hl := l.isLt
  have h : ∀ k : Fin 2, (![r, q] : Fin 2 → ℕ) k ≤ (y k).val ∧ (y k).val < (![r, q] : Fin 2 → ℕ) k + (⟨2, ![a, b]⟩ : Shape).size k := by
    intro k
    fin_cases k
    · show r ≤ (y 0).val ∧ (y 0).val < r + a; omega
    · show q ≤ (y 1).val ∧ (y 1).val < q + b; omega
  unfold VecWindow.put
  rw [dif_pos h]
  refine congrArg w (funext fun k => Fin.ext ?_)
  rw [Rect.unitLocal_val]
  fin_cases k
  · show (y 0).val - r = i.val; omega
  · show (y 1).val - q = l.val; omega

/-- A put tile read outside it. -/
theorem put2_out (x : (⟨2, ![m, n]⟩ : Shape).Idx → α) (w : (⟨2, ![a, b]⟩ : Shape).Idx → α) (y : (⟨2, ![m, n]⟩ : Shape).Idx)
    (h : ¬ (r ≤ (y 0).val ∧ (y 0).val < r + a ∧ q ≤ (y 1).val ∧ (y 1).val < q + b)) :
    VecWindow.put x ![r, q] (⟨2, ![a, b]⟩ : Shape).size w y = x y := by
  unfold VecWindow.put
  rw [dif_neg]
  intro hk
  have k0 : r ≤ (y 0).val ∧ (y 0).val < r + a := hk 0
  have k1 : q ≤ (y 1).val ∧ (y 1).val < q + b := hk 1
  exact h ⟨k0.1, k0.2, k1.1, k1.2⟩

/-- A tile read out of an array. -/
theorem window2 (x : (⟨2, ![m, n]⟩ : Shape).Idx → α) (inb : ∀ k, (![r, q] : Fin 2 → ℕ) k + (⟨2, ![a, b]⟩ : Shape).size k ≤ (⟨2, ![m, n]⟩ : Shape).size k)
    (z : (⟨2, ![a, b]⟩ : Shape).Idx) (y : (⟨2, ![m, n]⟩ : Shape).Idx) (h0 : (y 0).val = r + (z 0).val) (h1 : (y 1).val = q + (z 1).val) :
    VecWindow.window x ![r, q] (⟨2, ![a, b]⟩ : Shape).size inb z = x y := by
  unfold VecWindow.window
  refine congrArg x (funext fun k => Fin.ext ?_)
  fin_cases k
  · show r + 1 * (z 0).val = (y 0).val; omega
  · show q + 1 * (z 1).val = (y 1).val; omega

/-- Two arrays that agree on a tile have the same tile. -/
theorem window2_congr (x x' : (⟨2, ![m, n]⟩ : Shape).Idx → α) (inb : ∀ k, (![r, q] : Fin 2 → ℕ) k + (⟨2, ![a, b]⟩ : Shape).size k ≤ (⟨2, ![m, n]⟩ : Shape).size k)
    (h : ∀ y : (⟨2, ![m, n]⟩ : Shape).Idx, r ≤ (y 0).val → (y 0).val < r + a → q ≤ (y 1).val → (y 1).val < q + b → x y = x' y) :
    VecWindow.window x ![r, q] (⟨2, ![a, b]⟩ : Shape).size inb = VecWindow.window x' ![r, q] (⟨2, ![a, b]⟩ : Shape).size inb := by
  funext z
  have z0 : (z 0).val < a := (z 0).isLt
  have z1 : (z 1).val < b := (z 1).isLt
  refine h _ ?_ ?_ ?_ ?_
  · show r ≤ r + 1 * (z 0).val; omega
  · show r + 1 * (z 0).val < r + a; omega
  · show q ≤ q + 1 * (z 1).val; omega
  · show q + 1 * (z 1).val < q + b; omega

end

/-! ## Where a position lies -/

/-- The 256 columns a column is of. -/
def jOf (l : Fin 5376) : Fin 21 := ⟨l.val / 256, by omega⟩
/-- The group of 128 of them. -/
def gOf (l : Fin 5376) : Fin 2 := ⟨l.val / 128 % 2, by omega⟩
/-- Its lane in the group. -/
def lOf (l : Fin 5376) : Fin 128 := ⟨l.val % 128, by omega⟩
/-- The tile a row is of. -/
def sOf (r : Fin 256) : Fin 8 := ⟨r.val / 32, by omega⟩
/-- Its row in the tile. -/
def rOf (r : Fin 256) : Fin 32 := ⟨r.val % 32, by omega⟩

/-! ## The values -/

/-- The reciprocal root mean squares of the kept rows. -/
def rmsAt (invn : F .f32) (x10 : Vec F T256x5376 .bf16) : Vec F T256x128 .f32 := fun y =>
  rmsV invn (sqF x10 ⟨(y 0).val / 16, by have : (y 0).val < 256 := (y 0).isLt; omega⟩ 41 (le_refl _)
    (sqV (VecWindow.window x10 ![16 * ((y 0).val / 16), 0] T16x128.size (inb2 (by have : (y 0).val < 256 := (y 0).isLt; omega) (by omega)))))
    (ix2 ⟨(y 0).val % 16, Nat.mod_lt _ (by decide)⟩ (y 1))

/-- The row scales, moved to the rows. -/
def xsbAt (x2 : Vec F T1x1x256 .f32) : Vec F T256x128 .f32 := fun y =>
  xsbV (VecWindow.window x2 ![0, 0, 128 * ((y 0).val / 128)] T1x1x128.size (inb3 (by have : (y 0).val < 256 := (y 0).isLt; omega)))
    (ix2 ⟨(y 0).val % 128, Nat.mod_lt _ (by decide)⟩ (y 1))

/-- The sums of residual and product. -/
def hOf (x1 : Vec F T256x1280 .fp8e4m3) (x3 : Vec F T1280x5376 .fp8e4m3) (x4 : Vec F T1x5376 .f32) (x5 : Vec F T256x5376 .bf16) (x11 : Vec F T256x128 .f32) :
    Vec F T256x5376 .bf16 := fun y =>
  tileH x11 x5 (jOf (y 1)) (gOf (y 1)) (accAt x1 x3 (jOf (y 1))) (wsAt x4 (jOf (y 1)) (gOf (y 1))) (sOf (y 0)) (ix2 (rOf (y 0)) (lOf (y 1)))

/-- The codes of the kept rows. -/
def cOf (x6 : Vec F T1x5376 .bf16) (x10 : Vec F T256x5376 .bf16) (x12 : Vec F T256x128 .f32) : Vec F T256x5376 .fp8e4m3 := fun y =>
  codesV (tileN x10 x12 (jOf (y 1)) (gOf (y 1)) (gamAt x6 (jOf (y 1)) (gOf (y 1))) (sOf (y 0)))
    (invV (absmaxV (tileN x10 x12 (jOf (y 1)) (gOf (y 1)) (gamAt x6 (jOf (y 1)) (gOf (y 1))) (sOf (y 0))))) (ix2 (rOf (y 0)) (lOf (y 1)))

/-- The kept power of row `r` of group `g`. -/
def iOf (x6 : Vec F T1x5376 .bf16) (x10 : Vec F T256x5376 .bf16) (x12 : Vec F T256x128 .f32) (r : Fin 256) (g : Fin 42) : F .f32 :=
  invKeptV (absmaxV (tileN x10 x12 ⟨g.val / 2, by omega⟩ ⟨g.val % 2, by omega⟩ (gamAt x6 ⟨g.val / 2, by omega⟩ ⟨g.val % 2, by omega⟩) (sOf r))) (ix2 (rOf r) 0)

/-! ## The tiles in turn -/

/-- After the first `p` tiles: those hold their values, the rest of the kept rows is as it was. -/
structure Inv (S : St F) (p : ℕ) (T : St F) : Prop where
  same : Same S T
  e11 : T.x11 = S.x11
  e12 : T.x12 = S.x12
  new10 : ∀ y : T256x5376.Idx, (y 1).val / 128 * 8 + (y 0).val / 32 < p → T.x10 y = hOf S.x1 S.x3 S.x4 S.x5 S.x11 y
  old10 : ∀ y : T256x5376.Idx, ¬ (y 1).val / 128 * 8 + (y 0).val / 32 < p → T.x10 y = S.x10 y
  new7 : ∀ y : T256x5376.Idx, (y 1).val / 128 * 8 + (y 0).val / 32 < p → T.x7 y = hOf S.x1 S.x3 S.x4 S.x5 S.x11 y
  new8 : ∀ y : T256x5376.Idx, (y 1).val / 128 * 8 + (y 0).val / 32 < p → T.x8 y = cOf S.x6 S.x10 S.x12 y
  new13 : ∀ (y : T256x128.Idx) (h : (y 1).val < 42), (y 1).val * 8 + (y 0).val / 32 < p → T.x13 y = iOf S.x6 S.x10 S.x12 (y 0) ⟨(y 1).val, h⟩

/-- One tile more. -/
theorem inv_unit (S : St F) (j : Fin 21) (g : Fin 2) (s : Fin 8) (T : St F) (h : Inv S ((2 * j.val + g.val) * 8 + s.val) T) :
    Inv S ((2 * j.val + g.val) * 8 + s.val + 1) (unitF j g (accAt S.x1 S.x3 j) (gamAt S.x6 j g) (wsAt S.x4 j g) s T) := by
  have hs := s.isLt
  have hg := g.isLt
  have hj := j.isLt
  -- the tile has not been written yet
  have hw : VecWindow.window T.x10 ![32 * s.val, 256 * j.val + 128 * g.val] T32x128.size (inb2 (by omega) (by omega))
      = VecWindow.window S.x10 ![32 * s.val, 256 * j.val + 128 * g.val] T32x128.size (inb2 (by omega) (by omega)) :=
    window2_congr _ _ _ fun y a b c d => h.old10 y (by omega)
  have hN : tileN T.x10 T.x12 j g (gamAt S.x6 j g) s = tileN S.x10 S.x12 j g (gamAt S.x6 j g) s := by
    unfold tileN; rw [hw, h.e12]
  have hH : tileH T.x11 T.x5 j g (accAt S.x1 S.x3 j) (wsAt S.x4 j g) s = tileH S.x11 S.x5 j g (accAt S.x1 S.x3 j) (wsAt S.x4 j g) s := by
    rw [h.e11, h.same.e5]
  -- a position of the tile and a position of an earlier one
  have key : ∀ y : T256x5376.Idx, (y 1).val / 128 * 8 + (y 0).val / 32 < (2 * j.val + g.val) * 8 + s.val + 1 →
      (y 1).val / 128 * 8 + (y 0).val / 32 < (2 * j.val + g.val) * 8 + s.val ∨ (jOf (y 1) = j ∧ gOf (y 1) = g ∧ sOf (y 0) = s) := by
    intro y hy
    have y0 : (y 0).val < 256 := (y 0).isLt
    by_cases hp : (y 1).val / 128 * 8 + (y 0).val / 32 < (2 * j.val + g.val) * 8 + s.val
    · exact .inl hp
    · refine .inr ⟨Fin.ext ?_, Fin.ext ?_, Fin.ext ?_⟩
      · show (y 1).val / 256 = j.val; omega
      · show (y 1).val / 128 % 2 = g.val; omega
      · show (y 0).val / 32 = s.val; omega
  have inside : ∀ y : T256x5376.Idx, (jOf (y 1) = j ∧ gOf (y 1) = g ∧ sOf (y 0) = s) →
      (y 0).val = 32 * s.val + (rOf (y 0)).val ∧ (y 1).val = 256 * j.val + 128 * g.val + (lOf (y 1)).val := by
    rintro y ⟨rfl, rfl, rfl⟩
    constructor
    · show (y 0).val = 32 * ((y 0).val / 32) + (y 0).val % 32; omega
    · show (y 1).val = 256 * ((y 1).val / 256) + 128 * ((y 1).val / 128 % 2) + (y 1).val % 128; omega
  have outside : ∀ y : T256x5376.Idx, ¬ (y 1).val / 128 * 8 + (y 0).val / 32 = (2 * j.val + g.val) * 8 + s.val →
      ¬ (32 * s.val ≤ (y 0).val ∧ (y 0).val < 32 * s.val + 32 ∧ 256 * j.val + 128 * g.val ≤ (y 1).val ∧ (y 1).val < 256 * j.val + 128 * g.val + 128) := by
    rintro y hy ⟨a, b, c, d⟩; omega
  refine ⟨h.same.trans (same_unitF ..), h.e11, h.e12, ?_, ?_, ?_, ?_, ?_⟩
  · intro y hy
    show VecWindow.put T.x10 ![32 * s.val, 256 * j.val + 128 * g.val] T32x128.size
      (shapeCast T32x128 (tileH T.x11 T.x5 j g (accAt S.x1 S.x3 j) (wsAt S.x4 j g) s) (casts_refl _)) y = _
    rw [hH, shapeCast_self]
    rcases key y hy with hp | hp
    · exact (put2_out _ _ _ (outside y (by omega))).trans (h.new10 y hp)
    · rw [put2_in _ _ y (rOf (y 0)) (lOf (y 1)) (inside y hp).1 (inside y hp).2]
      unfold hOf
      rw [hp.1, hp.2.1, hp.2.2]
  · intro y hy
    exact (put2_out _ _ _ (outside y (by omega))).trans (h.old10 y (by omega))
  · intro y hy
    show VecWindow.put T.x7 ![32 * s.val, 256 * j.val + 128 * g.val] T32x128.size
      (tileH T.x11 T.x5 j g (accAt S.x1 S.x3 j) (wsAt S.x4 j g) s) y = _
    rw [hH]
    rcases key y hy with hp | hp
    · exact (put2_out _ _ _ (outside y (by omega))).trans (h.new7 y hp)
    · rw [put2_in _ _ y (rOf (y 0)) (lOf (y 1)) (inside y hp).1 (inside y hp).2]
      unfold hOf
      rw [hp.1, hp.2.1, hp.2.2]
  · intro y hy
    show VecWindow.put T.x8 ![32 * s.val, 256 * j.val + 128 * g.val] T32x128.size
      (codesV (tileN T.x10 T.x12 j g (gamAt S.x6 j g) s) (invV (absmaxV (tileN T.x10 T.x12 j g (gamAt S.x6 j g) s)))) y = _
    rw [hN]
    rcases key y hy with hp | hp
    · exact (put2_out _ _ _ (outside y (by omega))).trans (h.new8 y hp)
    · rw [put2_in _ _ y (rOf (y 0)) (lOf (y 1)) (inside y hp).1 (inside y hp).2]
      unfold cOf
      rw [hp.1, hp.2.1, hp.2.2]
  · intro y h42 hy
    have y0 : (y 0).val < 256 := (y 0).isLt
    show VecWindow.put T.x13 ![32 * s.val, 2 * j.val + g.val] T32x1.size
      (shapeCast T32x1 (invKeptV (absmaxV (tileN T.x10 T.x12 j g (gamAt S.x6 j g) s))) (casts_refl _)) y = _
    rw [hN, shapeCast_self]
    by_cases hp : (y 1).val * 8 + (y 0).val / 32 < (2 * j.val + g.val) * 8 + s.val
    · exact (put2_out _ _ _ (by rintro ⟨a, b, c, d⟩; omega)).trans (h.new13 y h42 hp)
    · have hj' : j = ⟨(y 1).val / 2, by omega⟩ := Fin.ext (by show j.val = (y 1).val / 2; omega)
      have hg' : g = ⟨(y 1).val % 2, by omega⟩ := Fin.ext (by show g.val = (y 1).val % 2; omega)
      have hs' : s = sOf (y 0) := Fin.ext (by show s.val = (y 0).val / 32; omega)
      rw [put2_in _ _ y (rOf (y 0)) (0 : Fin 1) (by show (y 0).val = 32 * s.val + (y 0).val % 32; omega) (by show (y 1).val = 2 * j.val + g.val + 0; omega)]
      unfold iOf
      rw [← hj', ← hg', ← hs']

/-- One group more: eight tiles. -/
theorem inv_group (S : St F) (j : Fin 21) (g : Fin 2) (T : St F) (h : Inv S (16 * j.val + 8 * g.val) T) :
    Inv S (16 * j.val + 8 * (g.val + 1)) (groupF j (accAt S.x1 S.x3 j) g T) := by
  unfold groupF
  rw [h.same.e6, h.same.e4]
  have := iter_ind (f := unitF j g (accAt S.x1 S.x3 j) (gamAt S.x6 j g) (wsAt S.x4 j g)) (P := fun n U => Inv S ((2 * j.val + g.val) * 8 + n) U)
    (fun s U hU => inv_unit S j g s U hU) 8 (le_refl _) T (by
      show Inv S ((2 * j.val + g.val) * 8 + (8 - 8)) T
      rwa [show (2 * j.val + g.val) * 8 + (8 - 8) = 16 * j.val + 8 * g.val by omega])
  rwa [show 16 * j.val + 8 * (g.val + 1) = (2 * j.val + g.val) * 8 + 8 by omega]

/-- 256 columns more: sixteen tiles. -/
theorem inv_cols (S : St F) (j : Fin 21) (T : St F) (h : Inv S (16 * j.val) T) : Inv S (16 * (j.val + 1)) (colsF j T) := by
  unfold colsF
  rw [h.same.e1, h.same.e3]
  have := iter_ind (f := groupF j (accAt S.x1 S.x3 j)) (P := fun n U => Inv S (16 * j.val + 8 * n) U)
    (fun g U hU => inv_group S j g U hU) 2 (le_refl _) T (by
      show Inv S (16 * j.val + 8 * (2 - 2)) T
      rwa [show 16 * j.val + 8 * (2 - 2) = 16 * j.val by omega])
  rwa [show 16 * (j.val + 1) = 16 * j.val + 8 * 2 by omega]

/-- After all tiles, every one of them holds its values. -/
theorem inv_all (S : St F) : Inv S 336 (iter 21 colsF 21 (le_refl _) S) :=
  iter_ind (f := colsF) (P := fun n U => Inv S (16 * n) U) (fun j U hU => inv_cols S j U hU) 21 (le_refl _) S
    ⟨Same.refl S, rfl, rfl, fun y h => absurd h (by omega), fun _ _ => rfl, fun y h => absurd h (by omega), fun y h => absurd h (by omega),
      fun y _ h => absurd h (by omega)⟩

/-! ## What comes before the tiles -/

/-- After the first `p` slabs. -/
structure InvR (invn : F .f32) (S : St F) (p : ℕ) (T : St F) : Prop where
  same : Same S T
  e10 : T.x10 = S.x10
  new12 : ∀ y : T256x128.Idx, (y 0).val / 16 < p → T.x12 y = rmsAt invn S.x10 y

/-- After all slabs, every row has its reciprocal root mean square. -/
theorem invR_all (invn : F .f32) (S : St F) : InvR invn S 16 (iter 16 (slabF invn) 16 (le_refl _) S) := by
  refine iter_ind (f := slabF invn) (P := fun n U => InvR invn S n U) (fun s T h => ?_) 16 (le_refl _) S
    ⟨Same.refl S, rfl, fun y h => absurd h (by omega)⟩
  refine ⟨h.same.trans (same_slabF ..), h.e10, fun y hy => ?_⟩
  have y0 : (y 0).val < 256 := (y 0).isLt
  show VecWindow.put T.x12 ![16 * s.val, 0] T16x128.size (shapeCast T16x128 (rmsV invn
      (sqF T.x10 s 41 (le_refl _) (sqV (VecWindow.window T.x10 ![16 * s.val, 0] T16x128.size (inb2 (by omega) (by omega)))))) (casts_refl _)) y = _
  rw [h.e10, shapeCast_self]
  by_cases hp : (y 0).val / 16 < s.val
  · exact (put2_out _ _ _ (by rintro ⟨a, b, c, d⟩; omega)).trans (h.new12 y hp)
  · have hv : (y 0).val / 16 = s.val := by omega
    refine (put2_in (r := 16 * s.val) (q := 0) (a := 16) (b := 128) _ _ y ⟨(y 0).val % 16, Nat.mod_lt _ (by decide)⟩ (y 1) (by show (y 0).val = 16 * s.val + (y 0).val % 16; omega) (Nat.zero_add _).symm).trans ?_
    unfold rmsAt
    obtain ⟨s, hs⟩ := s
    dsimp only at hv
    subst hv
    rfl

/-- After the first `p` halves of the row scales. -/
structure InvX (S : St F) (p : ℕ) (T : St F) : Prop where
  same : Same S T
  e10 : T.x10 = S.x10
  e12 : T.x12 = S.x12
  new11 : ∀ y : T256x128.Idx, (y 0).val / 128 < p → T.x11 y = xsbAt S.x2 y

/-- After both halves, every row has its scale. -/
theorem invX_all (S : St F) : InvX S 2 (iter 2 xsbF 2 (le_refl _) S) := by
  refine iter_ind (f := xsbF) (P := fun n U => InvX S n U) (fun s T h => ?_) 2 (le_refl _) S
    ⟨Same.refl S, rfl, rfl, fun y h => absurd h (by omega)⟩
  refine ⟨h.same.trans (same_xsbF ..), h.e10, h.e12, fun y hy => ?_⟩
  have y0 : (y 0).val < 256 := (y 0).isLt
  show VecWindow.put T.x11 ![128 * s.val, 0] T128x128.size
      (shapeCast T128x128 (xsbV (VecWindow.window T.x2 ![0, 0, 128 * s.val] T1x1x128.size (inb3 (by omega)))) (casts_refl _)) y = _
  rw [h.same.e2, shapeCast_self]
  by_cases hp : (y 0).val / 128 < s.val
  · exact (put2_out _ _ _ (by rintro ⟨a, b, c, d⟩; omega)).trans (h.new11 y hp)
  · have hv : (y 0).val / 128 = s.val := by omega
    refine (put2_in (r := 128 * s.val) (q := 0) (a := 128) (b := 128) _ _ y ⟨(y 0).val % 128, Nat.mod_lt _ (by decide)⟩ (y 1) (by show (y 0).val = 128 * s.val + (y 0).val % 128; omega) (Nat.zero_add _).symm).trans ?_
    unfold xsbAt
    obtain ⟨s, hs⟩ := s
    dsimp only at hv
    subst hv
    rfl

/-! ## The whole body -/

/-- What the body leaves in the outputs and the kept rows, of its operands and the rows kept before. -/
theorem mainF_vals (invn : F .f32) (S : St F) :
    (mainF invn S).x10 = hOf S.x1 S.x3 S.x4 S.x5 (xsbAt S.x2)
    ∧ (mainF invn S).x7 = hOf S.x1 S.x3 S.x4 S.x5 (xsbAt S.x2)
    ∧ (mainF invn S).x8 = cOf S.x6 S.x10 (rmsAt invn S.x10)
    ∧ ∀ y : T256x42.Idx, (mainF invn S).x9 y = FloatOps.divf (Scalar.ofBits .f32 0x3F800000#32) (iOf S.x6 S.x10 (rmsAt invn S.x10) (y 0) (y 1)) := by
  have hR := invR_all invn S
  have hX := invX_all (iter 16 (slabF invn) 16 (le_refl _) S)
  have hA := inv_all (iter 2 xsbF 2 (le_refl _) (iter 16 (slabF invn) 16 (le_refl _) S))
  unfold mainF
  generalize iter 16 (slabF invn) 16 (le_refl _) S = S1 at *
  generalize iter 2 xsbF 2 (le_refl _) S1 = S2 at *
  generalize iter 21 colsF 21 (le_refl _) S2 = S3 at *
  have sm := hR.same.trans hX.same
  have e11 : S2.x11 = xsbAt S.x2 := by
    funext y
    have y0 : (y 0).val < 256 := (y 0).isLt
    rw [hX.new11 y (by omega), hR.same.e2]
  have e12 : S2.x12 = rmsAt invn S.x10 := by
    funext y
    have y0 : (y 0).val < 256 := (y 0).isLt
    rw [hX.e12, hR.new12 y (by omega)]
  have e10 : S2.x10 = S.x10 := hX.e10.trans hR.e10
  have n10 := hA.new10
  have n7 := hA.new7
  have n8 := hA.new8
  have n13 := hA.new13
  rw [sm.e1, sm.e3, sm.e4, sm.e5, e11] at n10 n7
  rw [sm.e6, e10, e12] at n8 n13
  refine ⟨?_, ?_, ?_, ?_⟩
  · funext y
    have y0 : (y 0).val < 256 := (y 0).isLt
    have y1 : (y 1).val < 5376 := (y 1).isLt
    exact n10 y (by omega)
  · funext y
    have y0 : (y 0).val < 256 := (y 0).isLt
    have y1 : (y 1).val < 5376 := (y 1).isLt
    exact n7 y (by omega)
  · funext y
    have y0 : (y 0).val < 256 := (y 0).isLt
    have y1 : (y 1).val < 5376 := (y 1).isLt
    exact n8 y (by omega)
  · intro y
    have y0 : (y 0).val < 256 := (y 0).isLt
    have y1 : (y 1).val < 42 := (y 1).isLt
    show VecWindow.put S3.x9 ![0, 0] T256x42.size (scaleV (VecWindow.window S3.x13 ![0, 0] T256x128.size (inb2 (by decide) (by decide)))) y = _
    refine (put2_in (r := 0) (q := 0) (a := 256) (b := 42) _ _ y (y 0) (y 1) (Nat.zero_add _).symm (Nat.zero_add _).symm).trans ?_
    have hz := n13 (ix2 (y 0) ⟨(y 1).val, by omega⟩) y1 (by show (y 1).val * 8 + (y 0).val / 32 < 336; omega)
    have hw := window2 (r := 0) (q := 0) S3.x13 (inb2 (a := 256) (b := 128) (by decide) (by decide)) (ix2 (y 0) ⟨(y 1).val, by omega⟩) (ix2 (y 0) ⟨(y 1).val, by omega⟩)
      (by show (y 0).val = 0 + (y 0).val; omega) (by show (y 1).val = 0 + (y 1).val; omega)
    refine Eq.trans ?_ (congrArg (FloatOps.divf (Scalar.ofBits .f32 0x3F800000#32)) (hw.trans hz))
    unfold scaleV
    refine congrArg (fun z => FloatOps.divf (Scalar.ofBits .f32 0x3F800000#32) (VecWindow.window S3.x13 ![0, 0] T256x128.size (inb2 (by decide) (by decide)) z)) ?_
    funext k
    refine Fin.ext ?_
    fin_cases k
    · show 0 + (y 0).val = (y 0).val; omega
    · show 0 + (y 1).val = (y 1).val; omega

end Cert.Body

end
-- ==== Proof.RunV.lean ====
/- The idealized kernel's run, with what its outputs hold: the body's triple at every point, the launch, the frame. -/
module

public import proofs.«01_k».proof.Proof.Kit
public import proofs.«01_k».proof.Proof.BodyEq
public import proofs.«01_k».proof.Proof.Vals
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The constant the mean square is taken with. -/
abbrev invn : F .f32 := Named.named κ "inv_n" 0x39430C31#32

/-- The rows kept before the first point: zeros. -/
def zRows : Vec F S256x5376 .bf16 := fun _ => Scalar.ofBits .bf16 0x0000#16

/-- The sums of residual and product the body forms at point `t`. -/
def hAfter (c : Dev nD) (t : Fin cfg0.N) : Vec F S256x5376 .bf16 :=
  Body.hOf (iblk m c 0 t) (iblk m c 2 t) (iblk m c 3 t) (iblk m c 4 t) (Body.xsbAt (iblk m c 1 t))

/-- The rows kept from the point before `t`. -/
def kept (c : Dev nD) (t : Fin cfg0.N) : Vec F S256x5376 .bf16 :=
  if h : t.val = 0 then zRows else hAfter m c ⟨t.val - 1, by omega⟩

/-- The codes the body leaves at point `t`. -/
def cAfter (c : Dev nD) (t : Fin cfg0.N) : Vec F S256x5376 .fp8e4m3 :=
  Body.cOf (iblk m c 5 t) (kept m c t) (Body.rmsAt invn (kept m c t))

/-- The scales the body leaves at point `t`. -/
def sAfter (c : Dev nD) (t : Fin cfg0.N) : Vec F S256x42 .f32 := fun y =>
  FloatOps.divf (Scalar.ofBits .f32 0x3F800000#32) (Body.iOf (iblk m c 5 t) (kept m c t) (Body.rmsAt invn (kept m c t)) (y 0) (y 1))

/-- What is carried between points: before the first point the scratch at anything; after point `n` the kept rows at
    that point's sums, the other scratch at anything. -/
def PhiS (c : Dev nD) : (n : ℕ) → n ≤ cfg0.N → sProp 𝕄
  | 0, _ => Pipeline.ΦA spec0 c
  | n + 1, hn => iprop(iprop(owns (c : Thread nD τ) scM0_0 fullShare (hAfter m c ⟨n, hn⟩) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare (hAfter m c ⟨n, hn⟩) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first. -/
theorem PhiS_pos (c : Dev nD) (t : Fin cfg0.N) (h : t.val ≤ cfg0.N) (hz : t.val ≠ 0) :
    PhiS m c t.val h = iprop(iprop(owns (c : Thread nD τ) scM0_0 fullShare (kept m c t) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold kept
  rw [dif_neg hz]
  obtain ⟨n, hn⟩ := t
  cases n with
  | zero => exact absurd rfl hz
  | succ n => rfl

/-- The proof data of the one pipeline on core `c`: the arrays as the region finds them (`V`); after the body at
    point `t` each input's buffer at its block and each output's at what the body leaves; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hAfter m c t
    | ⟨7, _⟩ => cAfter m c t
    | ⟨8, _⟩ => sAfter m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in window 1's staging buffer. -/
theorem after0_1 (c : Dev nD) (t : Fin cfg0.N) : (dats m 0 c).after 1 t = iblk m c 1 t := by dsimp only [dats]
/-- What the body leaves in window 2's staging buffer. -/
theorem after0_2 (c : Dev nD) (t : Fin cfg0.N) : (dats m 0 c).after 2 t = iblk m c 2 t := by dsimp only [dats]
/-- What the body leaves in window 3's staging buffer. -/
theorem after0_3 (c : Dev nD) (t : Fin cfg0.N) : (dats m 0 c).after 3 t = iblk m c 3 t := by dsimp only [dats]
/-- What the body leaves in window 4's staging buffer. -/
theorem after0_4 (c : Dev nD) (t : Fin cfg0.N) : (dats m 0 c).after 4 t = iblk m c 4 t := by dsimp only [dats]
/-- What the body leaves in window 5's staging buffer. -/
theorem after0_5 (c : Dev nD) (t : Fin cfg0.N) : (dats m 0 c).after 5 t = iblk m c 5 t := by dsimp only [dats]

/-- What the body leaves in window 6's staging buffer. -/
theorem after0_6 (c : Dev nD) (t : Fin cfg0.N) : (dats m 0 c).after 6 t = hAfter m c t := by dsimp only [dats]
/-- What the body leaves in window 7's staging buffer. -/
theorem after0_7 (c : Dev nD) (t : Fin cfg0.N) : (dats m 0 c).after 7 t = cAfter m c t := by dsimp only [dats]
/-- What the body leaves in window 8's staging buffer. -/
theorem after0_8 (c : Dev nD) (t : Fin cfg0.N) : (dats m 0 c).after 8 t = sAfter m c t := by dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1's staging buffer holds before the body: its block. -/
theorem before0_1 (c : Dev nD) (t : Fin cfg0.N) (d) : (dats m 0 c).before 1 t d = iblk m c 1 t :=
  before0_1_of m (dats m 0 c) (A_eq m c 1) (after0_1 m c) t d
/-- What window 2's staging buffer holds before the body: its block. -/
theorem before0_2 (c : Dev nD) (t : Fin cfg0.N) (d) : (dats m 0 c).before 2 t d = iblk m c 2 t :=
  before0_2_of m (dats m 0 c) (A_eq m c 2) (after0_2 m c) t d
/-- What window 3's staging buffer holds before the body: its block. -/
theorem before0_3 (c : Dev nD) (t : Fin cfg0.N) (d) : (dats m 0 c).before 3 t d = iblk m c 3 t :=
  before0_3_of m (dats m 0 c) (A_eq m c 3) (after0_3 m c) t d
/-- What window 4's staging buffer holds before the body: its block. -/
theorem before0_4 (c : Dev nD) (t : Fin cfg0.N) (d) : (dats m 0 c).before 4 t d = iblk m c 4 t :=
  before0_4_of m (dats m 0 c) (A_eq m c 4) (after0_4 m c) t d
/-- What window 5's staging buffer holds before the body: its block. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- What the body leaves of buffers `S`, the kept rows being `K`. -/
def Left (S : Body.St F) (K : Vec F S256x5376 .bf16) (T : Body.St F) : Prop :=
  Body.Same S T ∧ T.x10 = Body.hOf S.x1 S.x3 S.x4 S.x5 (Body.xsbAt S.x2) ∧ T.x7 = Body.hOf S.x1 S.x3 S.x4 S.x5 (Body.xsbAt S.x2)
    ∧ T.x8 = Body.cOf S.x6 K (Body.rmsAt invn K)
    ∧ T.x9 = fun y => FloatOps.divf (Scalar.ofBits .f32 0x3F800000#32) (Body.iOf S.x6 K (Body.rmsAt invn K) (y 0) (y 1))

/-- The body after the first point leaves this. -/
theorem left_main (S : Body.St F) : Left S S.x10 (Body.mainF invn S) := by
  obtain ⟨h0, h1, h2, h3⟩ := Body.mainF_vals invn S
  exact ⟨Body.same_mainF _ _, h0, h1, h2, funext h3⟩

/-- At the first point the kept rows are zeros. -/
theorem initF_x10 (S : Body.St F) : (Body.initF S).x10 = zRows := by
  unfold Body.initF
  dsimp only
  rw [shapeCast_self]
  funext y
  refine (Body.put2_in (r := 0) (q := 0) (a := 256) (b := 5376) _ _ y (y 0) (y 1) (by omega) (by omega)).trans ?_
  rfl

/-- The body at the first point leaves this. -/
theorem left_init (S : Body.St F) : Left S zRows (Body.mainF invn (Body.initF S)) := by
  have h := left_main (Body.initF S)
  rw [initF_x10] at h
  exact ⟨(Body.same_initF S).trans h.1, h.2⟩

set_option maxHeartbeats 4000000 in
/-- What the body leaves is what is returned. -/
theorem post_of (c : Dev nD) (t : Fin cfg0.N) (S T : Body.St F) (h : Left S (kept m c t) T)
    (k1 : S.x1 = iblk m c 0 t) (k2 : S.x2 = iblk m c 1 t) (k3 : S.x3 = iblk m c 2 t) (k4 : S.x4 = iblk m c 3 t) (k5 : S.x5 = iblk m c 4 t) (k6 : S.x6 = iblk m c 5 t) (R : sProp 𝕄) :
    iprop(Body.Held c (ms0_0 t) (ms0_1 t) (ms0_2 t) (ms0_3 t) (ms0_4 t) (ms0_5 t) (ms0_6 t) (ms0_7 t) (ms0_8 t) scM0_0 scM0_1 scM0_2 scM0_3 T ∗ R ∗ (∃ r, prngReg c r)) ⊢
    (iprop(PhiS m c (t.val + 1) t.isLt ∗ R
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (hAfter m c t)
    ∗ owns (c : Thread nD τ) (ms0_7 t) fullShare (cAfter m c t)
    ∗ owns (c : Thread nD τ) (ms0_8 t) fullShare (sAfter m c t)) : sProp 𝕄) := by
  obtain ⟨⟨e1, e2, e3, e4, e5, e6⟩, e10, e7, e8, e9⟩ := h
  rw [k1, k2, k3, k4, k5] at e10 e7
  rw [k6] at e8 e9
  rw [PhiS_succ]
  have f10 : T.x10 = hAfter m c t := e10
  have f7 : T.x7 = hAfter m c t := e7
  have f8 : T.x8 = cAfter m c t := e8
  have f9 : T.x9 = sAfter m c t := e9
  rw [show (⟨t.val, t.isLt⟩ : Fin cfg0.N) = t from rfl, ← k1, ← k2, ← k3, ← k4, ← k5, ← k6]
  generalize hAfter m c t = x at f10 f7 ⊢
  generalize cAfter m c t = y at f8 ⊢
  generalize sAfter m c t = z at f9 ⊢
  obtain ⟨x1, x2, x3, x4, x5, x6, x7, x8, x9, x10, x11, x12, x13⟩ := T
  dsimp only at e1 e2 e3 e4 e5 e6 f10 f7 f8 f9
  rw [← e1, ← e2, ← e3, ← e4, ← e5, ← e6, f10, f7, f8, f9]
  unfold Body.Held; dsimp only
  iintro ⟨⟨H0, H1, H2, H3, H4, H5, H6, H7, H8, HS0, HS1, HS2, HS3⟩, Ho, Hg⟩
  isplitl [HS0 HS1 HS2 HS3 Hg]
  · isplitl [HS0 HS1 HS2 HS3]
    · isplitl [HS0]; · iexact HS0
      isplitl [HS1]; · iexists _; iexact HS1
      isplitl [HS2]; · iexists _; iexact HS2
      iexists _; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- The body at a point, from its buffers held and the kept rows at what the point before left: with the buffers at what it leaves. -/
theorem triple_at (c : Dev nD) (t : Fin cfg0.N) (S : Body.St F) (hS : t.val ≠ 0 → S.x10 = kept m c t) (Q : PUnit → sProp 𝕄) :
    iprop(Body.Held c (ms0_0 t) (ms0_1 t) (ms0_2 t) (ms0_3 t) (ms0_4 t) (ms0_5 t) (ms0_6 t) (ms0_7 t) (ms0_8 t) scM0_0 scM0_1 scM0_2 scM0_3 S
      ∗ (∀ T, ⌜Left S (kept m c t) T⌝ -∗ Body.Held c (ms0_0 t) (ms0_1 t) (ms0_2 t) (ms0_3 t) (ms0_4 t) (ms0_5 t) (ms0_6 t) (ms0_7 t) (ms0_8 t) scM0_0 scM0_1 scM0_2 scM0_3 T -∗ Q ⟨⟩))
      ⊢ wp frame (wpE (defs₀ (F := F)) Variants.none c none) Set.univ (bodyAt0 t) Q := by
  have ht : t.val < 65 := Nat.lt_of_lt_of_eq t.isLt N_0
  by_cases h0 : t.val % 65 = 0
  · have hk : kept m c t = zRows := by unfold kept; rw [dif_pos (by omega)]
    rw [hk]
    rw [show bodyAt0 (F := F) t = _ from body_A (grid0.coords t) _ _ _ _ _ _ _ _ _ _ _ _ _ _ _ _ _ _ _ _ _ _ _ _ _ _ ((hcond0_0 t).mpr h0)]
    refine BIBase.Entails.trans ?_ (Body.run_A Variants.none c none Set.univ _ _ _ _ _ _ _ _ _ _ _ _ _ _ _ _ S invn)
    iintro ⟨H, Hk⟩
    isplitl [H]; · iexact H
    iapply Hk
    ipureintro
    exact left_init S
  · rw [← hS (by omega)]
    rw [show bodyAt0 (F := F) t = _ from body_B (grid0.coords t) _ _ _ _ _ _ _ _ _ _ _ _ _ _ _ _ _ _ _ _ _ _ _ _ _ _ (fun h => h0 ((hcond0_0 t).mp h))]
    refine BIBase.Entails.trans ?_ (Body.run_B Variants.none c none Set.univ _ _ _ _ _ _ _ _ _ _ _ _ _ _ _ _ S invn)
    iintro ⟨H, Hk⟩
    isplitl [H]; · iexact H
    iapply Hk
    ipureintro
    exact left_main S

set_option maxHeartbeats 4000000 in
/-- The body at any point: the operands' memrefs hold their blocks, the kept rows what the point before left; so it runs, and
    returns the outputs named. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_castSucc m c t]
  generalize (dats m 0 c).owesAt () t.castSucc = R
  generalize (dats m 0 c).before 6 t = b6
  generalize (dats m 0 c).before 7 t = b7
  generalize (dats m 0 c).before 8 t = b8
  by_cases hz : t.val = 0
  · rw [PhiS_zero m c _ _ hz, PhiA0_eq]
    iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply triple_at m c t ⟨iblk m c 0 t, iblk m c 1 t, iblk m c 2 t, iblk m c 3 t, iblk m c 4 t, iblk m c 5 t, b6 d6, b7 d7, b8 d8, e0, e1, e2, e3⟩ (fun h => absurd hz h)
    isplitl [H0 H1 H2 H3 H4 H5 H6 H7 H8 HS0 HS1 HS2 HS3]
    · unfold Body.Held; dsimp only
      iframe
    iintro %T %hT H
    iapply post_of m c t _ T hT rfl rfl rfl rfl rfl rfl R
    iframe
  · rw [PhiS_pos m c t _ hz]
    iintro ⟨⟨⟨HS0, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply triple_at m c t ⟨iblk m c 0 t, iblk m c 1 t, iblk m c 2 t, iblk m c 3 t, iblk m c 4 t, iblk m c 5 t, b6 d6, b7 d7, b8 d8, kept m c t, e1, e2, e3⟩ (fun _ => rfl)
    isplitl [H0 H1 H2 H3 H4 H5 H6 H7 H8 HS0 HS1 HS2 HS3]
    · unfold Body.Held; dsimp only
      iframe
    iintro %T %hT H
    iapply post_of m c t _ T hT rfl rfl rfl rfl rfl rfl R
    iframe

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scratch back at anything. -/
theorem hout (c : Dev nD) : (dats m 0 c).Φ (Fin.last cfg0.N) ⊢ Pipeline.ΦA spec0 c := by
  rw [show (dats m 0 c).Φ (Fin.last cfg0.N) = PhiS m c (64 + 1) (by have : cfg0.N = 65 := N_0; omega) from rfl, PhiS_succ, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-! ## The run and the frame -/

-- the launch theorem's implicit arguments are found by unifying its conclusion with this one, which takes unfolding plain
-- definitions in a metavariable's type
set_option backward.isDefEq.respectTransparency.types false in
/-- The launch: the arrays after the last write-back, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main_quiescent m ρ)

/-- The frame, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.Spec.lean ====
/- What both programs compute, over the extended reals, a row at a time. -/
module

public import Idealize.ShloMosaic.Lib.Pointwise

@[expose] public section

noncomputable section

namespace Cert.Spec

open Idealize.ShloMosaic

/-- A row of the sums of residual and scaled product. -/
def rowH (x : Fin 1280 → EReal) (xs : EReal) (w : Fin 1280 → Fin 5376 → EReal) (ws res : Fin 5376 → EReal) (j : Fin 5376) : EReal :=
  res j + (∑ k, x k * w k j) * xs * ws j

/-- The reciprocal root of a row's mean square. -/
def root (h : Fin 5376 → EReal) : EReal :=
  Ideal.rsqrt (Ideal.div (∑ j, h j * h j) (Ideal.ofBits .f32 0x45A80000#32) + Ideal.ofBits .f32 0x3727C5AC#32)

/-- A row normalised. -/
def norm (h γ : Fin 5376 → EReal) (j : Fin 5376) : EReal := h j * root h * γ j

/-- The largest magnitude in a group of a row. -/
def absmax (h γ : Fin 5376 → EReal) (g : Fin 42) : EReal :=
  Finset.fold max (Ideal.ofBits .f32 0xFF800000#32)
    (fun l : Fin 128 => max (norm h γ ⟨g.val * 128 + l.val, by omega⟩) (-norm h γ ⟨g.val * 128 + l.val, by omega⟩)) Finset.univ

/-- The exponent of a magnitude over 448. -/
def flo (a : EReal) : EReal :=
  Ideal.liftRound Int.floor (Ideal.div (Ideal.log (a * Ideal.ofBits .f32 0x3B124925#32)) (Ideal.log (Ideal.ofBits .f32 0x40000000#32))) + 1

/-- The same, zero for zero. -/
def expo (a : EReal) : EReal := if a = 0 then 0 else flo a

/-- A group's scale. -/
def scale (h γ : Fin 5376 → EReal) (g : Fin 42) : EReal := Ideal.exp2 (expo (absmax h γ g))

/-- A code. -/
def code (h γ : Fin 5376 → EReal) (j : Fin 5376) : EReal :=
  min (Ideal.ofBits .f32 0x43E00000#32)
    (max (Ideal.ofBits .f32 0xC3E00000#32) (norm h γ j * Ideal.exp2 (0 - expo (absmax h γ ⟨j.val / 128, by omega⟩))))

/-- A magnitude is at most its group's largest. -/
theorem abs_le_absmax (h γ : Fin 5376 → EReal) (j : Fin 5376) :
    max (norm h γ j) (-norm h γ j) ≤ absmax h γ ⟨j.val / 128, by omega⟩ := by
  unfold absmax
  rw [Finset.le_fold_max]
  refine .inr ⟨⟨j.val % 128, Nat.mod_lt _ (by decide)⟩, Finset.mem_univ _, ?_⟩
  have e : (⟨j.val / 128 * 128 + j.val % 128, by omega⟩ : Fin 5376) = j := Fin.ext (by show j.val / 128 * 128 + j.val % 128 = j.val; omega)
  simp only [e]
  exact le_refl _

/-- Where a group's largest magnitude is zero the row is zero. -/
theorem norm_eq_zero (h γ : Fin 5376 → EReal) (j : Fin 5376) (ha : absmax h γ ⟨j.val / 128, by omega⟩ = 0) : norm h γ j = 0 := by
  have hl := abs_le_absmax h γ j
  rw [ha] at hl
  refine le_antisymm ((le_max_left _ _).trans hl) ?_
  have := (le_max_right _ _).trans hl
  rwa [EReal.neg_le, neg_zero] at this

/-- One over 448, as the programs round it, is positive. -/
theorem over_ne_zero : Ideal.ofBits .f32 0x3B124925#32 ≠ 0 := by
  have e : ∃ r : ℝ, r ≠ 0 ∧ Ideal.ofBits .f32 0x3B124925#32 = (r : EReal) := by
    refine ⟨_, ?_, by simp [Ideal.ofBits, Ideal.ieee, -EReal.coe_mul]; rfl⟩
    norm_num
  obtain ⟨r, hr, e⟩ := e
  rw [e]
  exact_mod_cast hr

/-- A magnitude over 448 is zero where the magnitude is. -/
theorem over_eq_zero (a : EReal) : a * Ideal.ofBits .f32 0x3B124925#32 = 0 ↔ a = 0 := by
  rw [mul_eq_zero]
  exact ⟨fun h => h.resolve_right over_ne_zero, .inl⟩

/-- The codes by the power that is `v` at zero. -/
theorem code_eq (h γ : Fin 5376 → EReal) (j : Fin 5376) (v : EReal) :
    code h γ j = min (Ideal.ofBits .f32 0x43E00000#32)
      (max (Ideal.ofBits .f32 0xC3E00000#32) (norm h γ j * if absmax h γ ⟨j.val / 128, by omega⟩ = 0 then v else Ideal.exp2 (0 - flo (absmax h γ ⟨j.val / 128, by omega⟩)))) := by
  unfold code expo
  split_ifs with ha
  · rw [norm_eq_zero h γ j ha, zero_mul, zero_mul]
  · rfl

/-- One over two to the power of `-f` is two to the power of `f`. -/
theorem one_div_exp2 (f : EReal) : Ideal.div 1 (Ideal.exp2 (0 - f)) = Ideal.exp2 f := by
  induction f using EReal.rec with
  | bot => simp [Ideal.div]
  | top => simp [Ideal.div]
  | coe r =>
    have h2 : Real.rpow 2 (-r) ≠ 0 := (Real.rpow_pos_of_pos (by norm_num) _).ne'
    rw [zero_sub, ← EReal.coe_neg, Ideal.exp2_coe, Ideal.exp2_coe, Ideal.div_coe h2, one_mul]
    congr 1
    show 1 / (2:ℝ) ^ (-r) = (2:ℝ) ^ r
    rw [Real.rpow_neg (by norm_num), one_div, inv_inv]

/-- The scale from the kept power. -/
theorem scale_eq (h γ : Fin 5376 → EReal) (g : Fin 42) :
    Ideal.div 1 (if absmax h γ g = 0 then 1 else Ideal.exp2 (0 - flo (absmax h γ g))) = scale h γ g := by
  unfold scale expo
  split_ifs with ha
  · have := one_div_exp2 0
    rw [sub_zero] at this
    have e : Ideal.exp2 0 = 1 := by
      rw [← EReal.coe_zero, Ideal.exp2_coe]
      show (((2:ℝ) ^ (0:ℝ) : ℝ) : EReal) = 1
      rw [Real.rpow_zero, EReal.coe_one]
    rw [e] at this ⊢
    exact this
  · exact one_div_exp2 _

/-! ## The three arrays -/

/-- The sums of residual and scaled product. -/
def hArr (X : Vec Ideal ⟨2, ![16384, 1280]⟩ .fp8e4m3) (XS : Vec Ideal ⟨2, ![16384, 1]⟩ .f32) (W : Vec Ideal ⟨2, ![1280, 5376]⟩ .fp8e4m3)
    (WS : Vec Ideal ⟨2, ![1, 5376]⟩ .f32) (R : Vec Ideal ⟨2, ![16384, 5376]⟩ .bf16) : Vec Ideal ⟨2, ![16384, 5376]⟩ .bf16 := fun i =>
  rowH (fun k => X (ix2 (i 0) k)) (XS (ix2 (i 0) 0)) (fun k j => W (ix2 k j)) (fun j => WS (ix2 0 j)) (fun j => R (ix2 (i 0) j)) (i 1)

/-- The codes of rows `H`. -/
def cArr (H : Vec Ideal ⟨2, ![16384, 5376]⟩ .bf16) (G : Vec Ideal ⟨2, ![1, 5376]⟩ .bf16) : Vec Ideal ⟨2, ![16384, 5376]⟩ .fp8e4m3 := fun i =>
  code (fun j => H (ix2 (i 0) j)) (fun j => G (ix2 0 j)) (i 1)

/-- The scales of rows `H`. -/
def sArr (H : Vec Ideal ⟨2, ![16384, 5376]⟩ .bf16) (G : Vec Ideal ⟨2, ![1, 5376]⟩ .bf16) : Vec Ideal ⟨2, ![16384, 42]⟩ .f32 := fun i =>
  scale (fun j => H (ix2 (i 0) j)) (fun j => G (ix2 0 j)) (i 1)

end Cert.Spec

end
-- ==== Proof.KMath.lean ====
/- The body's pure values read at a position, in the extended reals: they are `Spec`'s. -/
module

public import proofs.«01_k».proof.Proof.Vals
public import proofs.«01_k».proof.Proof.Spec
public import Idealize.ShloMosaic.Lib.Pointwise

@[expose] public section

noncomputable section

namespace Cert.Body

open Idealize.ShloMosaic

/-- A tile read out of an array, at a row and a column. -/
theorem windowIx {α : Type} {m n a b r q : ℕ} (x : (⟨2, ![m, n]⟩ : Shape).Idx → α) (inb : ∀ k, (![r, q] : Fin 2 → ℕ) k + (⟨2, ![a, b]⟩ : Shape).size k ≤ (⟨2, ![m, n]⟩ : Shape).size k)
    (i : Fin a) (l : Fin b) (R : Fin m) (C : Fin n) (h0 : R.val = r + i.val) (h1 : C.val = q + l.val) :
    VecWindow.window x ![r, q] (⟨2, ![a, b]⟩ : Shape).size inb (ix2 i l) = x (ix2 R C) :=
  window2 x inb (ix2 i l) (ix2 R C) h0 h1

/-! ## The pure values at a position -/

/-- An entry of 256 columns of the product: the sum over the channels. -/
theorem accV_at (x : Vec Ideal T256x1280 .fp8e4m3) (w : Vec Ideal T1280x256 .fp8e4m3) (r : Fin 256) (l : Fin 256) :
    accV x w (ix2 r l) = ∑ k : Fin 1280, x (ix2 r k) * w (ix2 k l) := by
  pointwise [accV, dotD]

/-- An entry of the residual sum. -/
theorem hV_at (acc : FVec Ideal T32x128 .f32) (xsb : Vec Ideal T32x128 .f32) (ws : FVec Ideal T1x128 .f32) (res : Vec Ideal T32x128 .bf16) (r : Fin 32) (l : Fin 128) :
    hV acc xsb ws res (ix2 r l) = res (ix2 r l) + acc (ix2 r l) * xsb (ix2 r l) * ws (ix2 0 l) := by
  pointwise [hV]

/-- An entry of a tile of the product. -/
theorem accTile_at (acc : FVec Ideal T256x256 .f32) (s : Fin 8) (c : Fin 2) (r : Fin 32) (l : Fin 128) :
    accTile acc s c (ix2 r l) = acc (ix2 ⟨32 * s.val + r.val, by omega⟩ ⟨128 * c.val + l.val, by omega⟩) := by
  pointwise [accTile]

/-- A row scale, spread over the lanes. -/
theorem xsbV_at (v : Vec Ideal T1x1x128 .f32) (r : Fin 128) (l : Fin 128) :
    xsbV v (ix2 r l) = v (ix3 0 0 r) := by
  pointwise [xsbV]

/-- An entry of the squares. -/
theorem sqV_at (v : Vec Ideal T16x128 .bf16) (r : Fin 16) (l : Fin 128) : sqV v (ix2 r l) = v (ix2 r l) * v (ix2 r l) := by
  pointwise [sqV]

/-- The reciprocal root mean square of a row, of its lane sums. -/
theorem rmsV_at (invn : Ideal .f32) (acc : FVec Ideal T16x128 .f32) (r : Fin 16) (l : Fin 128) :
    rmsV invn acc (ix2 r l) = Ideal.rsqrt ((∑ k : Fin 128, acc (ix2 r k)) * invn + Ideal.ofBits .f32 0x3727C5AC#32) := by
  pointwise [rmsV]

/-- An entry of the normalised array. -/
theorem nV_at (hs : Vec Ideal T32x128 .bf16) (rms : Vec Ideal T32x128 .f32) (gam : FVec Ideal T1x128 .f32) (r : Fin 32) (l : Fin 128) :
    nV hs rms gam (ix2 r l) = hs (ix2 r l) * rms (ix2 r l) * gam (ix2 0 l) := by
  pointwise [nV]

/-- A gain, read at f32. -/
theorem gamV_at (v : Vec Ideal T1x128 .bf16) (l : Fin 128) : gamV v (ix2 0 l) = v (ix2 0 l) := by
  pointwise [gamV]

/-- The largest magnitude in a row of a tile. -/
theorem absmaxV_at (n : FVec Ideal T32x128 .f32) (r : Fin 32) :
    absmaxV n (ix2 r 0) = Finset.fold max (Ideal.ofBits .f32 0xFF800000#32) (fun l : Fin 128 => max (n (ix2 r l)) (-n (ix2 r l)) : Fin 128 → EReal) Finset.univ := by
  pointwise [absmaxV]
  rfl

/-- The power a row is multiplied by. -/
theorem invV_at (a : FVec Ideal T32x1 .f32) (r : Fin 32) :
    invV a (ix2 r 0) = if (a (ix2 r 0) : EReal) = 0 then Ideal.ofBits .f32 0x7E800000#32 else Ideal.exp2 (0 - Spec.flo (a (ix2 r 0))) := by
  refine Eq.trans ?_ (if_congr (Spec.over_eq_zero _) rfl rfl)
  pointwise [invV, overV]
  rfl

/-- The power kept for the scales. -/
theorem invKeptV_at (a : FVec Ideal T32x1 .f32) (r : Fin 32) :
    invKeptV a (ix2 r 0) = if (a (ix2 r 0) : EReal) = 0 then (1 : EReal) else Ideal.exp2 (0 - Spec.flo (a (ix2 r 0))) := by
  have h := invV_at a r
  have e : invKeptV a (ix2 r 0) = if (a (ix2 r 0) : EReal) = 0 then (1 : EReal) else invV a (ix2 r 0) := by
    unfold invKeptV
    generalize invV a = v
    pointwise
  rw [e, h]
  split_ifs <;> rfl

/-- A code: the scaled entry between the bounds. -/
theorem codesV_at (n : FVec Ideal T32x128 .f32) (inv : FVec Ideal T32x1 .f32) (r : Fin 32) (l : Fin 128) :
    codesV n inv (ix2 r l) = min (Ideal.ofBits .f32 0x43E00000#32) (max (Ideal.ofBits .f32 0xC3E00000#32) (n (ix2 r l) * inv (ix2 r 0))) := by
  pointwise [codesV]

/-! ## The sums -/

/-- The column `j` cut up and put together again. -/
theorem col_eq (j : Fin 5376) : 256 * (jOf j).val + 128 * (gOf j).val + (lOf j).val = j.val := by
  show 256 * (j.val / 256) + 128 * (j.val / 128 % 2) + j.val % 128 = j.val; omega

/-- The row `r` likewise. -/
theorem row_eq (r : Fin 256) : 32 * (sOf r).val + (rOf r).val = r.val := by
  show 32 * (r.val / 32) + r.val % 32 = r.val; omega

/-- The row scales at the rows. -/
theorem xsbAt_at (x2 : Vec Ideal T1x1x256 .f32) (r : Fin 256) (l : Fin 128) : xsbAt x2 (ix2 r l) = x2 (ix3 0 0 r) := by
  refine (xsbV_at _ ⟨r.val % 128, Nat.mod_lt _ (by decide)⟩ l).trans ?_
  unfold VecWindow.window
  refine congrArg x2 (funext fun k => Fin.ext ?_)
  fin_cases k
  · show 0 + 1 * 0 = 0; rfl
  · show 0 + 1 * 0 = 0; rfl
  · show 128 * (r.val / 128) + 1 * (r.val % 128) = r.val; omega

set_option maxHeartbeats 1000000 in
/-- The sums of residual and product. -/
theorem hOf_at (x1 : Vec Ideal T256x1280 .fp8e4m3) (x2 : Vec Ideal T1x1x256 .f32) (x3 : Vec Ideal T1280x5376 .fp8e4m3) (x4 : Vec Ideal T1x5376 .f32)
    (x5 : Vec Ideal T256x5376 .bf16) (r : Fin 256) (j : Fin 5376) :
    hOf x1 x3 x4 x5 (xsbAt x2) (ix2 r j)
      = Spec.rowH (fun k => x1 (ix2 r k)) (x2 (ix3 0 0 r)) (fun k j => x3 (ix2 k j)) (fun j => x4 (ix2 0 j)) (fun j => x5 (ix2 r j)) j := by
  have hr := row_eq r
  have hj := col_eq j
  have hjl := (jOf j).isLt
  have hgl := (gOf j).isLt
  have e : hOf x1 x3 x4 x5 (xsbAt x2) (ix2 r j)
      = hV (accTile (accAt x1 x3 (jOf j)) (sOf r) (gOf j))
          (VecWindow.window (xsbAt x2) ![32 * (sOf r).val, 0] T32x128.size (inb2 (by omega) (by omega))) (wsAt x4 (jOf j) (gOf j))
          (VecWindow.window x5 ![32 * (sOf r).val, 256 * (jOf j).val + 128 * (gOf j).val] T32x128.size (inb2 (by omega) (by omega))) (ix2 (rOf r) (lOf j)) := rfl
  have e4 : wsAt x4 (jOf j) (gOf j) (ix2 0 (lOf j)) = x4 (ix2 0 j) :=
    (congrFun (shapeCast_self (s := T1x128) _ _) (ix2 0 (lOf j))).trans (windowIx x4 _ _ _ 0 j rfl (by omega))
  rw [e, hV_at, accTile_at, e4]
  unfold accAt
  rw [accV_at, windowIx x5 _ _ _ r j (by omega) (by omega), windowIx (xsbAt x2) _ _ _ r (lOf j) (by omega) (by omega), xsbAt_at]
  unfold Spec.rowH
  refine congrArg (fun z : EReal => x5 (ix2 r j) + z * x2 (ix3 0 0 r) * x4 (ix2 0 j)) (Finset.sum_congr rfl fun k _ => ?_)
  rw [windowIx x1 _ _ _ r k (by show r.val = 0 + (32 * (sOf r).val + (rOf r).val); omega) (by omega),
    windowIx x3 _ _ _ k j (by omega) (by show j.val = 256 * (jOf j).val + (128 * (gOf j).val + (lOf j).val); omega)]

/-- A square of row `r`, at lane `l` of group `q`. -/
def sqAt (hs : Vec Ideal T256x5376 .bf16) (r : Fin 256) (l : Fin 128) (q : ℕ) : EReal :=
  if h : q < 42 then hs (ix2 r ⟨q * 128 + l.val, by omega⟩) * hs (ix2 r ⟨q * 128 + l.val, by omega⟩) else 0

/-- The loop over the groups adds their squares. -/
theorem sqF_at (hs : Vec Ideal T256x5376 .bf16) (s : Fin 16) (i : Fin 16) (l : Fin 128) (r : Fin 256) (hr : r.val = 16 * s.val + i.val) :
    (n : ℕ) → (h : n ≤ 41) → (acc : FVec Ideal T16x128 .f32) →
      (sqF hs s n h acc (ix2 i l) : EReal) = acc (ix2 i l) + ∑ q ∈ Finset.Ico (42 - n) 42, sqAt hs r l q
  | 0, _, acc => by
    show acc (ix2 i l) = _
    rw [Nat.sub_zero, Finset.Ico_self, Finset.sum_empty, add_zero]
  | n + 1, h, acc => by
    unfold sqF
    rw [sqF_at hs s i l r hr n (by omega), Finset.sum_eq_sum_Ico_succ_bot (by omega : 42 - (n + 1) < 42), show 42 - (n + 1) + 1 = 42 - n from by omega]
    have e : (sqV (VecWindow.window hs ![16 * s.val, 128 * (42 - (n + 1))] T16x128.size (inb2 (by omega) (by omega))) (ix2 i l) : EReal) = sqAt hs r l (42 - (n + 1)) := by
      rw [sqV_at, windowIx hs _ _ _ r ⟨(42 - (n + 1)) * 128 + l.val, by omega⟩ hr (by show (42 - (n + 1)) * 128 + l.val = _; omega)]
      unfold sqAt
      rw [dif_pos (by omega)]
    rw [← e, ← add_assoc]
    rfl

/-- A slab's lane sums added up are the sums of the rows' squares. -/
theorem sum_sq (hs : Vec Ideal T256x5376 .bf16) (s : Fin 16) (i : Fin 16) (r : Fin 256) (hr : r.val = 16 * s.val + i.val) (inb) :
    (∑ l : Fin 128, (sqF hs s 41 (le_refl _) (sqV (VecWindow.window hs ![16 * s.val, 0] T16x128.size inb)) (ix2 i l) : EReal))
      = ∑ j : Fin 5376, (hs (ix2 r j) * hs (ix2 r j) : EReal) := by
  rw [Fin.sum_univ_tiles 42 128 (by decide : 42 * 128 = 5376) (fun j => (hs (ix2 r j) * hs (ix2 r j) : EReal)), Finset.sum_comm]
  refine Finset.sum_congr rfl fun l _ => ?_
  have e : (sqV (VecWindow.window hs ![16 * s.val, 0] T16x128.size inb) (ix2 i l) : EReal) = sqAt hs r l 0 := by
    rw [sqV_at, windowIx hs _ _ _ r ⟨0 * 128 + l.val, by omega⟩ hr (by show 0 * 128 + l.val = 0 + l.val; omega)]
    unfold sqAt
    rw [dif_pos (by decide)]
  rw [sqF_at hs s i l r hr, e]
  rw [show (42 - 41 : ℕ) = 0 + 1 from rfl, ← Finset.sum_eq_sum_Ico_succ_bot (by decide : 0 < 42), ← Finset.range_eq_Ico, Finset.sum_range]
  refine Finset.sum_congr rfl fun q _ => ?_
  unfold sqAt
  rw [dif_pos q.isLt]

/-- The reciprocal root mean squares, the constant being one over 5376. -/
theorem rmsAt_at (invn : Ideal .f32) (hinv : invn = ((1 / 5376 : ℝ) : EReal)) (x10 : Vec Ideal T256x5376 .bf16) (r : Fin 256) (l : Fin 128) :
    rmsAt invn x10 (ix2 r l) = Spec.root fun j => x10 (ix2 r j) := by
  refine (rmsV_at _ _ ⟨r.val % 16, Nat.mod_lt _ (by decide)⟩ l).trans ?_
  unfold Spec.root
  have e : (Ideal.ofBits .f32 0x45A80000#32 : EReal) = ((5376 : ℝ) : EReal) := by
    simp [Ideal.ofBits, Ideal.ieee, -EReal.coe_mul]; norm_num
  rw [e, Ideal.div_coe (by norm_num)]
  have hs := sum_sq x10 ⟨r.val / 16, by omega⟩ ⟨r.val % 16, Nat.mod_lt _ (by decide)⟩ r (by show r.val = 16 * (r.val / 16) + r.val % 16; omega) (inb2 (by show 16 * (r.val / 16) + 16 ≤ 256; omega) (by omega))
  rw [hinv]
  exact congrArg (fun z : EReal => Ideal.rsqrt (z * ((1 / 5376 : ℝ) : EReal) + Ideal.ofBits .f32 0x3727C5AC#32)) hs

/-- A tile of the normalised rows. -/
theorem tileN_at (invn : Ideal .f32) (hinv : invn = ((1 / 5376 : ℝ) : EReal)) (x6 : Vec Ideal T1x5376 .bf16) (x10 : Vec Ideal T256x5376 .bf16)
    (j : Fin 21) (c : Fin 2) (s : Fin 8) (i : Fin 32) (l : Fin 128) (r : Fin 256) (k : Fin 5376) (hr : r.val = 32 * s.val + i.val) (hk : k.val = 256 * j.val + 128 * c.val + l.val) :
    tileN x10 (rmsAt invn x10) j c (gamAt x6 j c) s (ix2 i l) = Spec.norm (fun j => x10 (ix2 r j)) (fun j => x6 (ix2 0 j)) k := by
  unfold tileN gamAt
  rw [nV_at, gamV_at, windowIx x10 _ _ _ r k hr hk, windowIx (rmsAt invn x10) _ _ _ r l hr (by omega), windowIx x6 _ _ _ 0 k rfl hk, rmsAt_at invn hinv]
  rfl

/-- A row's largest magnitude in a tile. -/
theorem absmax_at (invn : Ideal .f32) (hinv : invn = ((1 / 5376 : ℝ) : EReal)) (x6 : Vec Ideal T1x5376 .bf16) (x10 : Vec Ideal T256x5376 .bf16)
    (j : Fin 21) (c : Fin 2) (s : Fin 8) (i : Fin 32) (r : Fin 256) (g : Fin 42) (hr : r.val = 32 * s.val + i.val) (hg : g.val = 2 * j.val + c.val) :
    absmaxV (tileN x10 (rmsAt invn x10) j c (gamAt x6 j c) s) (ix2 i 0) = Spec.absmax (fun j => x10 (ix2 r j)) (fun j => x6 (ix2 0 j)) g := by
  rw [absmaxV_at]
  unfold Spec.absmax
  refine Finset.fold_congr fun l _ => ?_
  rw [tileN_at invn hinv x6 x10 j c s i l r ⟨g.val * 128 + l.val, by omega⟩ hr (by show g.val * 128 + l.val = _; omega)]

/-- The codes. -/
theorem cOf_at (invn : Ideal .f32) (hinv : invn = ((1 / 5376 : ℝ) : EReal)) (x6 : Vec Ideal T1x5376 .bf16) (x10 : Vec Ideal T256x5376 .bf16) (r : Fin 256) (j : Fin 5376) :
    cOf x6 x10 (rmsAt invn x10) (ix2 r j) = Spec.code (fun j => x10 (ix2 r j)) (fun j => x6 (ix2 0 j)) j := by
  unfold cOf
  show codesV _ _ (ix2 (rOf r) (lOf j)) = _
  have hr := row_eq r
  have hj := col_eq j
  rw [codesV_at, invV_at]
  erw [tileN_at invn hinv x6 x10 (jOf j) (gOf j) (sOf r) (rOf r) (lOf j) r j (by omega) (by omega),
    absmax_at invn hinv x6 x10 (jOf j) (gOf j) (sOf r) (rOf r) r ⟨j.val / 128, by omega⟩ (by omega) (by show j.val / 128 = 2 * (j.val / 256) + j.val / 128 % 2; omega)]
  exact (Spec.code_eq _ _ _ _).symm

/-- The scales. -/
theorem sOf_at (invn : Ideal .f32) (hinv : invn = ((1 / 5376 : ℝ) : EReal)) (x6 : Vec Ideal T1x5376 .bf16) (x10 : Vec Ideal T256x5376 .bf16) (r : Fin 256) (g : Fin 42) :
    FloatOps.divf (Scalar.ofBits .f32 0x3F800000#32) (iOf x6 x10 (rmsAt invn x10) r g) = Spec.scale (fun j => x10 (ix2 r j)) (fun j => x6 (ix2 0 j)) g := by
  unfold iOf
  have hr := row_eq r
  rw [invKeptV_at, absmax_at invn hinv x6 x10 _ _ (sOf r) (rOf r) r g (by omega) (by show g.val = 2 * (g.val / 2) + g.val % 2; omega)]
  refine Eq.trans ?_ (Spec.scale_eq _ _ _)
  have e : (Scalar.ofBits (F := Ideal) .f32 0x3F800000#32 : EReal) = 1 := by
    show Ideal.ofBits .f32 0x3F800000#32 = 1
    simp [Ideal.ofBits, Ideal.ieee, -EReal.coe_mul]; norm_num
  show Ideal.div (Scalar.ofBits (F := Ideal) .f32 0x3F800000#32) _ = _
  rw [e]

end Cert.Body

end
-- ==== Proof.KernelValue.lean ====
/- The idealized kernel's three result arrays after the run. -/
module

public import proofs.«01_k».proof.Proof.RunV
public import proofs.«01_k».proof.Proof.KMath
public import Idealize.ShloMosaic.Lib.Pipeline.Value
public import Idealize.ShloMosaic.Lib.StableHlo.Run

@[expose] public section

noncomputable section

namespace Cert.KernelIdeal.Run

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The constant is one over the row length. -/
theorem invn_eq : (invn : Ideal .f32) = ((1 / 5376 : ℝ) : EReal) := IdealRules.named_const.ideal_named_scalar _ _ _ _ rfl

/-! ## The reshaped arguments -/

/-- Argument 0, reshaped. -/
theorem V_v0 (c : Dev nD) : V m c main_v0 = shapeCast S16384x1280 (m ((c : Thread nD τ).loc main_arg0)) shapeCasts_S4x4096x1280_S16384x1280 := by
  unfold V hostOps0
  after_results
  rfl

/-- Argument 1, reshaped. -/
theorem V_v1 (c : Dev nD) : V m c main_v1 = shapeCast S64x1x256 (m ((c : Thread nD τ).loc main_arg1)) shapeCasts_S4x4096x1_S64x1x256 := by
  unfold V hostOps0
  after_results
  rfl

/-- Argument 3, reshaped. -/
theorem V_v2 (c : Dev nD) : V m c main_v2 = shapeCast S1x5376 (m ((c : Thread nD τ).loc main_arg3)) shapeCasts_S5376_S1x5376 := by
  unfold V hostOps0
  after_results
  rfl

/-- Argument 4, reshaped. -/
theorem V_v3 (c : Dev nD) : V m c main_v3 = shapeCast S16384x5376 (m ((c : Thread nD τ).loc main_arg4)) shapeCasts_S4x4096x5376_S16384x5376 := by
  unfold V hostOps0
  after_results
  rfl

/-- Argument 5, reshaped. -/
theorem V_v4 (c : Dev nD) : V m c main_v4 = shapeCast S1x5376 (m ((c : Thread nD τ).loc main_arg5)) shapeCasts_S5376_S1x5376 := by
  unfold V hostOps0
  after_results
  rfl

/-- A column's shape is the row scales'. -/
theorem casts_col : S4x4096x1.ShapeCasts ⟨2, ![16384, 1]⟩ := by decide

/-- The row scales as a column. -/
def xsCol (c : Dev nD) : Vec Ideal ⟨2, ![16384, 1]⟩ .f32 := shapeCast _ (m ((c : Thread nD τ).loc main_arg1)) casts_col

/-- The row scales in blocks and as a column. -/
theorem col_at (x : Vec Ideal S4x4096x1 .f32) (b : Fin 64) (r : Fin 256) (R : Fin 16384) (hR : R.val = b.val * 256 + r.val) :
    shapeCast S64x1x256 x shapeCasts_S4x4096x1_S64x1x256 (ix3 b 0 r) = shapeCast (⟨2, ![16384, 1]⟩ : Shape) x casts_col (ix2 R 0) := by
  refine (shapeCast_apply _ _ (ix3 b 0 r) (ix3 ⟨R.val / 4096, by omega⟩ ⟨R.val % 4096, by omega⟩ 0) ?_).trans
    (shapeCast_apply _ _ (ix2 R 0) (ix3 ⟨R.val / 4096, by omega⟩ ⟨R.val % 4096, by omega⟩ 0) ?_).symm
  · rw [Shape.rowMajor_val_three, Shape.rowMajor_val_three]
    show (R.val / 4096 * 4096 + R.val % 4096) * 1 + 0 = (b.val * 1 + 0) * 256 + r.val
    omega
  · rw [Shape.rowMajor_val_three, Shape.rowMajor_val_two]
    show (R.val / 4096 * 4096 + R.val % 4096) * 1 + 0 = R.val * 1 + 0
    omega

/-! ## The windows' index maps -/

/-- The block of window 0 at a point. -/
theorem idx0 : ∀ t : Fin cfg0.N, win0_0.index t 0 = min t.val 63 := (by decide +kernel : ∀ t : Fin grid0.N, win0_0.index t 0 = min t.val 63)

/-- The block of window 1 at a point. -/
theorem idx1 : ∀ t : Fin cfg0.N, win0_1.index t 0 = min t.val 63 := (by decide +kernel : ∀ t : Fin grid0.N, win0_1.index t 0 = min t.val 63)

/-- The block of window 4 at a point. -/
theorem idx4 : ∀ t : Fin cfg0.N, win0_4.index t 0 = min t.val 63 := (by decide +kernel : ∀ t : Fin grid0.N, win0_4.index t 0 = min t.val 63)

/-- The block of window 6 at a point. -/
theorem idx6 : ∀ t : Fin cfg0.N, win0_6.index t 0 = min t.val 63 := (by decide +kernel : ∀ t : Fin grid0.N, win0_6.index t 0 = min t.val 63)

/-- The block of window 7 at a point. -/
theorem idx7 : ∀ t : Fin cfg0.N, win0_7.index t 0 = t.val - 1 := (by decide +kernel : ∀ t : Fin grid0.N, win0_7.index t 0 = t.val - 1)

/-- It is not written back at the first point. -/
theorem pos7 : ∀ t : Fin cfg0.N, (cfg0.win 7).flush t = true → t.val ≠ 0 := (by decide +kernel : ∀ t : Fin grid0.N, win0_7.flush t = true → t.val ≠ 0)

/-- The block of window 8 at a point. -/
theorem idx8 : ∀ t : Fin cfg0.N, win0_8.index t 0 = t.val - 1 := (by decide +kernel : ∀ t : Fin grid0.N, win0_8.index t 0 = t.val - 1)

/-- It is not written back at the first point. -/
theorem pos8 : ∀ t : Fin cfg0.N, (cfg0.win 8).flush t = true → t.val ≠ 0 := (by decide +kernel : ∀ t : Fin grid0.N, win0_8.flush t = true → t.val ≠ 0)

/-- Some point writes back a block of window 6. -/
theorem wrote6 : ∀ b : Fin 64, ∃ t : Fin cfg0.N, (cfg0.win 6).flush t = true ∧ min t.val 63 = b.val :=
  (by decide +kernel : ∀ b : Fin 64, ∃ t : Fin grid0.N, win0_6.flush t = true ∧ min t.val 63 = b.val)

/-- Some point writes back a block of window 7. -/
theorem wrote7 : ∀ b : Fin 64, ∃ t : Fin cfg0.N, (cfg0.win 7).flush t = true ∧ t.val - 1 = b.val :=
  (by decide +kernel : ∀ b : Fin 64, ∃ t : Fin grid0.N, win0_7.flush t = true ∧ t.val - 1 = b.val)

/-- Some point writes back a block of window 8. -/
theorem wrote8 : ∀ b : Fin 64, ∃ t : Fin cfg0.N, (cfg0.win 8).flush t = true ∧ t.val - 1 = b.val :=
  (by decide +kernel : ∀ b : Fin 64, ∃ t : Fin grid0.N, win0_8.flush t = true ∧ t.val - 1 = b.val)

/-! ## The windows' blocks at a position -/

/-- A row of the arrays: row `r` of block `b`. -/
def rowAt (b : ℕ) (hb : b ≤ 63) (r : Fin 256) : Fin 16384 := ⟨b * 256 + r.val, by omega⟩

/-- Window 0's block. -/
theorem iblk0_at (c : Dev nD) (t : Fin cfg0.N) (r : Fin 256) (k : Fin 1280) : iblk m c 0 t (ix2 r k) = V m c main_v0 (ix2 (rowAt (min t.val 63) (Nat.min_le_right _ _) r) k) := by
  unfold iblk
  rw [View.read_apply]
  show V m c main_v0 _ = V m c main_v0 _
  refine congrArg _ (funext fun a => Fin.ext ?_)
  match a with
  | ⟨0, _⟩ =>
    refine (win0_0.rect_emb_val t (ix2 r k) 0).trans ?_
    rw [idx0 t]; rfl
  | ⟨1, _⟩ => exact win0_0.rect_emb_val_of_index_zero t 1 rfl (ix2 r k)

/-- Window 4's block. -/
theorem iblk4_at (c : Dev nD) (t : Fin cfg0.N) (r : Fin 256) (k : Fin 5376) : iblk m c 4 t (ix2 r k) = V m c main_v3 (ix2 (rowAt (min t.val 63) (Nat.min_le_right _ _) r) k) := by
  unfold iblk
  rw [View.read_apply]
  show V m c main_v3 _ = V m c main_v3 _
  refine congrArg _ (funext fun a => Fin.ext ?_)
  match a with
  | ⟨0, _⟩ =>
    refine (win0_4.rect_emb_val t (ix2 r k) 0).trans ?_
    rw [idx4 t]; rfl
  | ⟨1, _⟩ => exact win0_4.rect_emb_val_of_index_zero t 1 rfl (ix2 r k)

/-- Window 1's block. -/
theorem iblk1_at (c : Dev nD) (t : Fin cfg0.N) (r : Fin 256) : iblk m c 1 t (ix3 0 0 r) = xsCol m c (ix2 (rowAt (min t.val 63) (Nat.min_le_right _ _) r) 0) := by
  have hb : min t.val 63 < 64 := by omega
  refine Eq.trans ?_ (col_at _ ⟨min t.val 63, hb⟩ r _ rfl)
  rw [← V_v1 m c]
  unfold iblk
  rw [View.read_apply]
  show V m c main_v1 _ = V m c main_v1 _
  refine congrArg _ (funext fun a => Fin.ext ?_)
  match a with
  | ⟨0, _⟩ =>
    refine (win0_1.rect_emb_val t (ix3 0 0 r) 0).trans ?_
    rw [idx1 t]
    show min t.val 63 * 1 + 0 = min t.val 63; omega
  | ⟨1, _⟩ => exact win0_1.rect_emb_val_of_index_zero t 1 rfl (ix3 0 0 r)
  | ⟨2, _⟩ => exact win0_1.rect_emb_val_of_index_zero t 2 rfl (ix3 0 0 r)

/-- Window 2's block is its whole array. -/
theorem iblk2 (c : Dev nD) (t : Fin cfg0.N) : iblk m c 2 t = V m c main_arg2 := by
  funext y
  unfold iblk
  rw [View.read_apply]
  show V m c main_arg2 _ = V m c main_arg2 y
  refine congrArg _ (funext fun a => Fin.ext ?_)
  match a with
  | ⟨0, _⟩ => exact win0_2.rect_emb_val_of_index_zero t 0 rfl y
  | ⟨1, _⟩ => exact win0_2.rect_emb_val_of_index_zero t 1 rfl y

/-- Window 3's block is its whole array. -/
theorem iblk3 (c : Dev nD) (t : Fin cfg0.N) : iblk m c 3 t = V m c main_v2 := by
  funext y
  unfold iblk
  rw [View.read_apply]
  show V m c main_v2 _ = V m c main_v2 y
  refine congrArg _ (funext fun a => Fin.ext ?_)
  match a with
  | ⟨0, _⟩ => exact win0_3.rect_emb_val_of_index_zero t 0 rfl y
  | ⟨1, _⟩ => exact win0_3.rect_emb_val_of_index_zero t 1 rfl y

/-- Window 5's block is its whole array. -/
theorem iblk5 (c : Dev nD) (t : Fin cfg0.N) : iblk m c 5 t = V m c main_v4 := by
  funext y
  unfold iblk
  rw [View.read_apply]
  show V m c main_v4 _ = V m c main_v4 y
  refine congrArg _ (funext fun a => Fin.ext ?_)
  match a with
  | ⟨0, _⟩ => exact win0_5.rect_emb_val_of_index_zero t 0 rfl y
  | ⟨1, _⟩ => exact win0_5.rect_emb_val_of_index_zero t 1 rfl y

/-! ## The result arrays -/

/-- The sums, from the arguments. -/
def resH (c : Dev nD) : Vec Ideal S16384x5376 .bf16 := Spec.hArr (V m c main_v0) (xsCol m c) (V m c main_arg2) (V m c main_v2) (V m c main_v3)
/-- The codes. -/
def resC (c : Dev nD) : Vec Ideal S16384x5376 .fp8e4m3 := Spec.cArr (resH m c) (V m c main_v4)
/-- The scales. -/
def resS (c : Dev nD) : Vec Ideal S16384x42 .f32 := Spec.sArr (resH m c) (V m c main_v4)

/-- The sums a point forms. -/
theorem hAfter_at (c : Dev nD) (t : Fin cfg0.N) (r : Fin 256) (j : Fin 5376) :
    hAfter m c t (ix2 r j) = resH m c (ix2 (rowAt (min t.val 63) (Nat.min_le_right _ _) r) j) := by
  unfold hAfter
  refine (Body.hOf_at _ _ _ _ _ r j).trans ?_
  simp only [iblk0_at, iblk1_at, iblk2, iblk3, iblk4_at]
  rfl

/-- The rows kept from the point before. -/
theorem kept_at (c : Dev nD) (t : Fin cfg0.N) (ht : t.val ≠ 0) (hb : t.val - 1 ≤ 63) (r : Fin 256) (j : Fin 5376) :
    kept m c t (ix2 r j) = resH m c (ix2 (rowAt (t.val - 1) hb r) j) := by
  unfold kept
  rw [dif_neg ht, hAfter_at]
  have e : rowAt (min (t.val - 1) 63) (Nat.min_le_right _ _) r = rowAt (t.val - 1) hb r := Fin.ext (by show min (t.val - 1) 63 * 256 + r.val = (t.val - 1) * 256 + r.val; omega)
  exact congrArg (fun R => resH m c (ix2 R j)) e

/-- The codes a point leaves. -/
theorem cAfter_at (c : Dev nD) (t : Fin cfg0.N) (ht : t.val ≠ 0) (hb : t.val - 1 ≤ 63) (r : Fin 256) (j : Fin 5376) :
    cAfter m c t (ix2 r j) = resC m c (ix2 (rowAt (t.val - 1) hb r) j) := by
  unfold cAfter
  refine (Body.cOf_at invn invn_eq _ _ r j).trans ?_
  simp only [kept_at m c t ht hb, iblk5]
  rfl

/-- The scales a point leaves. -/
theorem sAfter_at (c : Dev nD) (t : Fin cfg0.N) (ht : t.val ≠ 0) (hb : t.val - 1 ≤ 63) (r : Fin 256) (g : Fin 42) :
    sAfter m c t (ix2 r g) = resS m c (ix2 (rowAt (t.val - 1) hb r) g) := by
  unfold sAfter
  refine (Body.sOf_at invn invn_eq _ _ r g).trans ?_
  simp only [kept_at m c t ht hb, iblk5]
  rfl

/-- A position of a block of window 6 in its array. -/
theorem emb6 (t : Fin cfg0.N) (r : Fin 256) (j : Fin 5376) :
    ((cfg0.win 6).blk t).view.emb (ix2 r j) = (ix2 (rowAt (min t.val 63) (Nat.min_le_right _ _) r) j : S16384x5376.Idx) := by
  refine funext fun a => Fin.ext ?_
  match a with
  | ⟨0, _⟩ =>
    refine (win0_6.rect_emb_val t (ix2 r j) 0).trans ?_
    rw [idx6 t]; rfl
  | ⟨1, _⟩ => exact win0_6.rect_emb_val_of_index_zero t 1 rfl (ix2 r j)

/-- What a point writes back of the sums. -/
theorem flushed6 (c : Dev nD) (t : Fin cfg0.N) (hf : (cfg0.win 6).flush t = true) :
    (dats m 0 c).flushed 6 t = ((cfg0.win 6).blk t).view.read (Elt Ideal) (resH m c) := by
  show (cfg0.win 6).cut (grid0.coords t) ((dats m 0 c).after 6 t) = _
  rw [after0_6]
  funext y
  rw [View.read_apply]
  show hAfter m c t y = resH m c _
  obtain ⟨r, j, rfl⟩ : ∃ (r : Fin 256) (j : Fin 5376), y = ix2 r j := ⟨y 0, y 1, eq_ix2 y⟩
  exact (hAfter_at m c t r j).trans (congrArg (resH m c) (emb6 t r j)).symm

/-- Every position is written back at some point. -/
theorem covered6 (i : S16384x5376.Idx) : ∃ t : Fin cfg0.N, (cfg0.win 6).flush t = true ∧ i ∈ ((cfg0.win 6).blk t).view.set := by
  have h0 : (i 0).val < 16384 := (i 0).isLt
  obtain ⟨t, hf, hb⟩ := wrote6 ⟨(i 0).val / 256, by omega⟩
  refine ⟨t, hf, ?_⟩
  have h := ((cfg0.win 6).blk t).view.emb_mem_set (ix2 (⟨(i 0).val % 256, Nat.mod_lt _ (by decide)⟩ : Fin 256) (i 1))
  have e : (ix2 (rowAt (min t.val 63) (Nat.min_le_right _ _) (⟨(i 0).val % 256, Nat.mod_lt _ (by decide)⟩ : Fin 256)) (i 1) : S16384x5376.Idx) = i := by
    refine funext fun a => Fin.ext ?_
    match a with
    | ⟨0, _⟩ =>
      show (min t.val 63) * 256 + (i 0).val % 256 = (i 0).val
      rw [hb]
      show (i 0).val / 256 * 256 + (i 0).val % 256 = (i 0).val
      omega
    | ⟨1, _⟩ => rfl
  exact (congrArg (· ∈ ((cfg0.win 6).blk t).view.set) ((emb6 t _ _).trans e)).mp h

/-- The array of sums after the run. -/
theorem final6 (c : Dev nD) : (dats m 0 c).arrAt 6 cfg0.N = resH m c :=
  (dats m 0 c).arrAt_eq_of_cover 6 (resH m c) (flushed6 m c) covered6

/-- A position of a block of window 7 in its array. -/
theorem emb7 (t : Fin cfg0.N) (r : Fin 256) (j : Fin 5376) :
    ((cfg0.win 7).blk t).view.emb (ix2 r j) = (ix2 (rowAt (t.val - 1) (by have := t.isLt; have : cfg0.N = 65 := N_0; omega) r) j : S16384x5376.Idx) := by
  refine funext fun a => Fin.ext ?_
  match a with
  | ⟨0, _⟩ =>
    refine (win0_7.rect_emb_val t (ix2 r j) 0).trans ?_
    rw [idx7 t]; rfl
  | ⟨1, _⟩ => exact win0_7.rect_emb_val_of_index_zero t 1 rfl (ix2 r j)

/-- What a point writes back of the codes. -/
theorem flushed7 (c : Dev nD) (t : Fin cfg0.N) (hf : (cfg0.win 7).flush t = true) :
    (dats m 0 c).flushed 7 t = ((cfg0.win 7).blk t).view.read (Elt Ideal) (resC m c) := by
  show (cfg0.win 7).cut (grid0.coords t) ((dats m 0 c).after 7 t) = _
  rw [after0_7]
  funext y
  rw [View.read_apply]
  show cAfter m c t y = resC m c _
  obtain ⟨r, j, rfl⟩ : ∃ (r : Fin 256) (j : Fin 5376), y = ix2 r j := ⟨y 0, y 1, eq_ix2 y⟩
  exact (cAfter_at m c t (pos7 t hf) (by have := t.isLt; have : cfg0.N = 65 := N_0; omega) r j).trans (congrArg (resC m c) (emb7 t r j)).symm

/-- Every position is written back at some point. -/
theorem covered7 (i : S16384x5376.Idx) : ∃ t : Fin cfg0.N, (cfg0.win 7).flush t = true ∧ i ∈ ((cfg0.win 7).blk t).view.set := by
  have h0 : (i 0).val < 16384 := (i 0).isLt
  obtain ⟨t, hf, hb⟩ := wrote7 ⟨(i 0).val / 256, by omega⟩
  refine ⟨t, hf, ?_⟩
  have h := ((cfg0.win 7).blk t).view.emb_mem_set (ix2 (⟨(i 0).val % 256, Nat.mod_lt _ (by decide)⟩ : Fin 256) (i 1))
  have e : (ix2 (rowAt (t.val - 1) (by have := t.isLt; have : cfg0.N = 65 := N_0; omega) (⟨(i 0).val % 256, Nat.mod_lt _ (by decide)⟩ : Fin 256)) (i 1) : S16384x5376.Idx) = i := by
    refine funext fun a => Fin.ext ?_
    match a with
    | ⟨0, _⟩ =>
      show (t.val - 1) * 256 + (i 0).val % 256 = (i 0).val
      rw [hb]
      show (i 0).val / 256 * 256 + (i 0).val % 256 = (i 0).val
      omega
    | ⟨1, _⟩ => rfl
  exact (congrArg (· ∈ ((cfg0.win 7).blk t).view.set) ((emb7 t _ _).trans e)).mp h

/-- The array of codes after the run. -/
theorem final7 (c : Dev nD) : (dats m 0 c).arrAt 7 cfg0.N = resC m c :=
  (dats m 0 c).arrAt_eq_of_cover 7 (resC m c) (flushed7 m c) covered7

/-- A position of a block of window 8 in its array. -/
theorem emb8 (t : Fin cfg0.N) (r : Fin 256) (j : Fin 42) :
    ((cfg0.win 8).blk t).view.emb (ix2 r j) = (ix2 (rowAt (t.val - 1) (by have := t.isLt; have : cfg0.N = 65 := N_0; omega) r) j : S16384x42.Idx) := by
  refine funext fun a => Fin.ext ?_
  match a with
  | ⟨0, _⟩ =>
    refine (win0_8.rect_emb_val t (ix2 r j) 0).trans ?_
    rw [idx8 t]; rfl
  | ⟨1, _⟩ => exact win0_8.rect_emb_val_of_index_zero t 1 rfl (ix2 r j)

/-- What a point writes back of the scales. -/
theorem flushed8 (c : Dev nD) (t : Fin cfg0.N) (hf : (cfg0.win 8).flush t = true) :
    (dats m 0 c).flushed 8 t = ((cfg0.win 8).blk t).view.read (Elt Ideal) (resS m c) := by
  show (cfg0.win 8).cut (grid0.coords t) ((dats m 0 c).after 8 t) = _
  rw [after0_8]
  funext y
  rw [View.read_apply]
  show sAfter m c t y = resS m c _
  obtain ⟨r, j, rfl⟩ : ∃ (r : Fin 256) (j : Fin 42), y = ix2 r j := ⟨y 0, y 1, eq_ix2 y⟩
  exact (sAfter_at m c t (pos8 t hf) (by have := t.isLt; have : cfg0.N = 65 := N_0; omega) r j).trans (congrArg (resS m c) (emb8 t r j)).symm

/-- Every position is written back at some point. -/
theorem covered8 (i : S16384x42.Idx) : ∃ t : Fin cfg0.N, (cfg0.win 8).flush t = true ∧ i ∈ ((cfg0.win 8).blk t).view.set := by
  have h0 : (i 0).val < 16384 := (i 0).isLt
  obtain ⟨t, hf, hb⟩ := wrote8 ⟨(i 0).val / 256, by omega⟩
  refine ⟨t, hf, ?_⟩
  have h := ((cfg0.win 8).blk t).view.emb_mem_set (ix2 (⟨(i 0).val % 256, Nat.mod_lt _ (by decide)⟩ : Fin 256) (i 1))
  have e : (ix2 (rowAt (t.val - 1) (by have := t.isLt; have : cfg0.N = 65 := N_0; omega) (⟨(i 0).val % 256, Nat.mod_lt _ (by decide)⟩ : Fin 256)) (i 1) : S16384x42.Idx) = i := by
    refine funext fun a => Fin.ext ?_
    match a with
    | ⟨0, _⟩ =>
      show (t.val - 1) * 256 + (i 0).val % 256 = (i 0).val
      rw [hb]
      show (i 0).val / 256 * 256 + (i 0).val % 256 = (i 0).val
      omega
    | ⟨1, _⟩ => rfl
  exact (congrArg (· ∈ ((cfg0.win 8).blk t).view.set) ((emb8 t _ _).trans e)).mp h

/-- The array of scales after the run. -/
theorem final8 (c : Dev nD) : (dats m 0 c).arrAt 8 cfg0.N = resS m c :=
  (dats m 0 c).arrAt_eq_of_cover 8 (resS m c) (flushed8 m c) covered8

/-- The run with the result arrays named and the arguments unchanged. -/
theorem run_values : θ_run (defs (F := Ideal)) (onTc (τ := τ) (main (F := Ideal))) ⟨m, fun _ => 0, ρ⟩ (fun r => ∀ c : Dev nD,
      r.2.mem ((c.tc : Thread nD τ).loc main_v5_0) = resH m c
      ∧ r.2.mem ((c.tc : Thread nD τ).loc main_v5_1) = resC m c
      ∧ r.2.mem ((c.tc : Thread nD τ).loc main_v5_2) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final6 m c), ((h.1 c).1 7).trans (final7 m c), ((h.1 c).1 8).trans (final8 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main_quiescent m ρ)

end Cert.KernelIdeal.Run

end
-- ==== Proof.RefMath.lean ====
/- The reference's pure values read at a position, in the extended reals. -/
module

public import proofs.«01_k».proof.Proof.Gen.ReferenceIdeal.Frame
public import proofs.«01_k».proof.Proof.Spec
public import Idealize.ShloMosaic.Lib.Pointwise

@[expose] public section

noncomputable section

namespace Cert.ReferenceIdeal.Math

open Cert.ReferenceIdeal.Gen
open Idealize.ShloMosaic

/-- The sums of residual and scaled product. -/
theorem pay4_at (x : Vec Ideal S16384x1280 .fp8e4m3) (w : Vec Ideal S1280x5376 .fp8e4m3) (xs : Vec Ideal S16384x1 .f32) (ws : Vec Ideal S1x5376 .f32) (res : Vec Ideal S16384x5376 .bf16)
    (r : Fin 16384) (j : Fin 5376) : k0_pay4 x w xs ws res (ix2 r j)
      = Spec.rowH (fun k => x (ix2 r k)) (xs (ix2 r 0)) (fun k j => w (ix2 k j)) (fun j => ws (ix2 0 j)) (fun j => res (ix2 r j)) j := by
  pointwise [k0_pay4, dot_S16384x1280_S1280x5376_S16384x5376_1_0_0_1_n_n]
  rfl

/-- The normalised rows, cut into groups. -/
theorem pay5_at (x : Vec Ideal S16384x1280 .fp8e4m3) (w : Vec Ideal S1280x5376 .fp8e4m3) (xs : Vec Ideal S16384x1 .f32) (ws : Vec Ideal S1x5376 .f32) (res : Vec Ideal S16384x5376 .bf16) (gam : Vec Ideal S1x5376 .bf16)
    (r : Fin 16384) (g : Fin 42) (l : Fin 128) : k0_pay5 x w xs ws res gam (ix3 r g l)
      = Spec.norm (fun j => k0_pay4 x w xs ws res (ix2 r j)) (fun j => gam (ix2 0 j)) ⟨g.val * 128 + l.val, by omega⟩ := by
  unfold k0_pay5
  generalize k0_pay4 x w xs ws res = h
  pointwise
  rfl

/-- The groups' largest magnitudes. -/
theorem pay6_at (x : Vec Ideal S16384x1280 .fp8e4m3) (w : Vec Ideal S1280x5376 .fp8e4m3) (xs : Vec Ideal S16384x1 .f32) (ws : Vec Ideal S1x5376 .f32) (res : Vec Ideal S16384x5376 .bf16) (gam : Vec Ideal S1x5376 .bf16)
    (r : Fin 16384) (g : Fin 42) : k0_pay6 x w xs ws res gam (ix2 r g)
      = Spec.absmax (fun j => k0_pay4 x w xs ws res (ix2 r j)) (fun j => gam (ix2 0 j)) g := by
  have e := fun l => pay5_at x w xs ws res gam r g l
  unfold k0_pay6
  generalize k0_pay5 x w xs ws res gam = h at e ⊢
  pointwise
  unfold Spec.absmax
  refine congrArg (fun f => Finset.fold max _ f Finset.univ) (funext fun l => ?_)
  rw [e]
  rfl

/-- A value times a constant. -/
theorem mulc_at (h : FVec Ideal S16384x42 .f32) (κ : Ideal .f32) (r : Fin 16384) (g : Fin 42) :
    mulf h (broadcast S16384x42 κ) (ix2 r g) = (h (ix2 r g) * κ : EReal) := rfl

/-- The groups' largest magnitudes over 448. -/
theorem pay7_at (x : Vec Ideal S16384x1280 .fp8e4m3) (w : Vec Ideal S1280x5376 .fp8e4m3) (xs : Vec Ideal S16384x1 .f32) (ws : Vec Ideal S1x5376 .f32) (res : Vec Ideal S16384x5376 .bf16) (gam : Vec Ideal S1x5376 .bf16)
    (r : Fin 16384) (g : Fin 42) : k0_pay7 x w xs ws res gam (ix2 r g) = (k0_pay6 x w xs ws res gam (ix2 r g) * (Scalar.ofBits (F := Ideal) .f32 0x3B124925#32) : EReal) := by
  unfold k0_pay7
  exact mulc_at _ _ r g

/-- The groups' exponents. -/
theorem pay1_at (a t : FVec Ideal S16384x42 .f32)
    (r : Fin 16384) (g : Fin 42) (ht : t (ix2 r g) = (a (ix2 r g) * (Scalar.ofBits (F := Ideal) .f32 0x3B124925#32) : EReal)) : k0_pay1 a t (ix2 r g) = Spec.expo (a (ix2 r g)) := by
  pointwise [k0_pay1]
  rw [ht]
  rfl

/-- The scales. -/
theorem pay2_at (a t : FVec Ideal S16384x42 .f32)
    (r : Fin 16384) (g : Fin 42) : k0_pay2 a t (ix2 r g) = FloatOps.exp2 (k0_pay1 a t (ix2 r g)) := by
  unfold k0_pay2
  generalize k0_pay1 a t = h
  pointwise

/-- The codes. -/
theorem pay3_at (n : FVec Ideal S16384x42x128 .f32) (a t : FVec Ideal S16384x42 .f32)
    (r : Fin 16384) (j : Fin 5376) : k0_pay3 n a t (ix2 r j)
      = min (Ideal.ofBits .f32 0x43E00000#32) (max (Ideal.ofBits .f32 0xC3E00000#32)
          (n (ix3 r ⟨j.val / 128, by omega⟩ ⟨j.val % 128, by omega⟩) * Ideal.exp2 (0 - k0_pay1 a t (ix2 r ⟨j.val / 128, by omega⟩)))) := by
  unfold k0_pay3
  generalize k0_pay1 a t = h
  pointwise
  rfl

end Cert.ReferenceIdeal.Math

end
-- ==== Proof.RefValue.lean ====
/- The reference's three result arrays after the run. -/
module

public import proofs.«01_k».proof.Proof.RefMath
public import Idealize.ShloMosaic.Lib.Pipeline.Value
public import Idealize.ShloMosaic.Lib.StableHlo.Run

@[expose] public section

noncomputable section

namespace Cert.ReferenceIdeal.Math

open Cert.ReferenceIdeal Cert.ReferenceIdeal.Gen
open Idealize.ShloMosaic Idealize.ShloMosaic.TcCoe Idealize.SL.Sem
open Idealize.ShloMosaic.Pipeline (Dat)

/-- The offset of a whole array is zero on each axis. -/
theorem hz : (![0, 0] : Fin 2 → Nat) = fun _ => 0 := funext fun a => by fin_cases a <;> rfl

section Out
variable (x0 : Vec Ideal S16384x1280 .fp8e4m3) (x1 : Vec Ideal S16384x1 .f32) (x2 : Vec Ideal S1280x5376 .fp8e4m3) (x3 : Vec Ideal S1x5376 .f32)
  (x4 : Vec Ideal S16384x5376 .bf16) (x5 : Vec Ideal S1x5376 .bf16)

/-- The sums. -/
theorem pay4_eq : k0_pay4 x0 x2 x1 x3 x4 = Spec.hArr x0 x1 x2 x3 x4 := by
  funext y
  rw [eq_ix2 y]
  exact pay4_at x0 x2 x1 x3 x4 (y 0) (y 1)

/-- The codes. -/
theorem pay3_eq : k0_pay3 (k0_pay5 x0 x2 x1 x3 x4 x5) (k0_pay6 x0 x2 x1 x3 x4 x5) (k0_pay7 x0 x2 x1 x3 x4 x5) = Spec.cArr (Spec.hArr x0 x1 x2 x3 x4) x5 := by
  funext y
  obtain ⟨r, j, rfl⟩ : ∃ (r : Fin 16384) (j : Fin 5376), y = ix2 r j := ⟨y 0, y 1, eq_ix2 y⟩
  have e : (⟨j.val / 128 * 128 + j.val % 128, by omega⟩ : Fin 5376) = j := Fin.ext (by show j.val / 128 * 128 + j.val % 128 = j.val; omega)
  rw [pay3_at, pay5_at, pay1_at _ _ _ _ (pay7_at x0 x2 x1 x3 x4 x5 r _), pay6_at, pay4_eq, e]
  unfold Spec.cArr Spec.code
  rfl

/-- The scales. -/
theorem pay2_eq : k0_pay2 (k0_pay6 x0 x2 x1 x3 x4 x5) (k0_pay7 x0 x2 x1 x3 x4 x5) = Spec.sArr (Spec.hArr x0 x1 x2 x3 x4) x5 := by
  funext y
  obtain ⟨r, g, rfl⟩ : ∃ (r : Fin 16384) (g : Fin 42), y = ix2 r g := ⟨y 0, y 1, eq_ix2 y⟩
  rw [pay2_at, pay1_at _ _ _ _ (pay7_at x0 x2 x1 x3 x4 x5 r g), pay6_at, pay4_eq]
  unfold Spec.sArr Spec.scale
  rfl

/-- What the body leaves of the sums. -/
theorem out6_eq : out0_6 x0 x1 x2 x3 x4 x5 = Spec.hArr x0 x1 x2 x3 x4 := by
  funext y
  unfold out0_6
  refine View.canon_apply_of_pieces (Spec.hArr x0 x1 x2 x3 x4) _ ?_ y (cover0_6 _ y)
  intro pc hpc
  rcases List.mem_cons.mp hpc with rfl | hpc
  · intro x
    simp only [View.ld_unit_zero (S := S16384x1280) hz, View.ld_unit_zero (S := S1280x5376) hz, View.ld_unit_zero (S := S16384x1) hz, View.ld_unit_zero (S := S1x5376) hz, View.ld_unit_zero (S := S16384x5376) hz]
    rw [pay4_eq]
    refine congrArg _ (funext fun a => Fin.ext ?_)
    match a with | ⟨0, _⟩ => show (x 0).val = (0 + 1 * (x 0).val); omega | ⟨1, _⟩ => show (x 1).val = (0 + 1 * (x 1).val); omega
  nomatch hpc

/-- What the body leaves of the codes. -/
theorem out7_eq : out0_7 x0 x1 x2 x3 x4 x5 = Spec.cArr (Spec.hArr x0 x1 x2 x3 x4) x5 := by
  funext y
  unfold out0_7 k0_pay8 k0_pay9
  refine View.canon_apply_of_pieces (Spec.cArr (Spec.hArr x0 x1 x2 x3 x4) x5) _ ?_ y (cover0_7 _ y)
  intro pc hpc
  rcases List.mem_cons.mp hpc with rfl | hpc
  · intro x
    simp only [View.ld_unit_zero (S := S16384x1280) hz, View.ld_unit_zero (S := S1280x5376) hz, View.ld_unit_zero (S := S16384x1) hz, View.ld_unit_zero (S := S1x5376) hz, View.ld_unit_zero (S := S16384x5376) hz]
    rw [pay3_eq]
    refine congrArg _ (funext fun a => Fin.ext ?_)
    match a with | ⟨0, _⟩ => show (x 0).val = (0 + 1 * (x 0).val); omega | ⟨1, _⟩ => show (x 1).val = (0 + 1 * (x 1).val); omega
  nomatch hpc

/-- What the body leaves of the scales. -/
theorem out8_eq : out0_8 x0 x1 x2 x3 x4 x5 = Spec.sArr (Spec.hArr x0 x1 x2 x3 x4) x5 := by
  funext y
  unfold out0_8 k0_pay8 k0_pay9
  refine View.canon_apply_of_pieces (Spec.sArr (Spec.hArr x0 x1 x2 x3 x4) x5) _ ?_ y (cover0_8 _ y)
  intro pc hpc
  rcases List.mem_cons.mp hpc with rfl | hpc
  · intro x
    simp only [View.ld_unit_zero (S := S16384x1280) hz, View.ld_unit_zero (S := S1280x5376) hz, View.ld_unit_zero (S := S16384x1) hz, View.ld_unit_zero (S := S1x5376) hz, View.ld_unit_zero (S := S16384x5376) hz]
    rw [pay2_eq]
    refine congrArg _ (funext fun a => Fin.ext ?_)
    match a with | ⟨0, _⟩ => show (x 0).val = (0 + 1 * (x 0).val); omega | ⟨1, _⟩ => show (x 1).val = (0 + 1 * (x 1).val); omega
  nomatch hpc

end Out

variable (m : (ℓ : Loc nD τ sig) → Buf (Elt Ideal) ℓ) (ρ : Dev nD → PrngReg)

/-- The one grid point. -/
def pt0 : Fin cfg0.N := ⟨0, by decide⟩

/-! ## The windows' blocks are the whole arrays -/

/-- Window 0's block. -/
theorem iblk0 (c : Dev nD) (t : Fin cfg0.N) : iblk m c 0 t = V m c main_v0 := by
  funext y
  unfold iblk
  rw [View.read_apply]
  show V m c main_v0 _ = V m c main_v0 y
  exact congrArg _ (funext fun a => Fin.ext (win0_0.rect_emb_val_of_index_zero t a rfl y))

/-- Window 1's block. -/
theorem iblk1 (c : Dev nD) (t : Fin cfg0.N) : iblk m c 1 t = V m c main_v1 := by
  funext y
  unfold iblk
  rw [View.read_apply]
  show V m c main_v1 _ = V m c main_v1 y
  exact congrArg _ (funext fun a => Fin.ext (win0_1.rect_emb_val_of_index_zero t a rfl y))

/-- Window 2's block. -/
theorem iblk2 (c : Dev nD) (t : Fin cfg0.N) : iblk m c 2 t = V m c main_arg2 := by
  funext y
  unfold iblk
  rw [View.read_apply]
  show V m c main_arg2 _ = V m c main_arg2 y
  exact congrArg _ (funext fun a => Fin.ext (win0_2.rect_emb_val_of_index_zero t a rfl y))

/-- Window 3's block. -/
theorem iblk3 (c : Dev nD) (t : Fin cfg0.N) : iblk m c 3 t = V m c main_v2 := by
  funext y
  unfold iblk
  rw [View.read_apply]
  show V m c main_v2 _ = V m c main_v2 y
  exact congrArg _ (funext fun a => Fin.ext (win0_3.rect_emb_val_of_index_zero t a rfl y))

/-- Window 4's block. -/
theorem iblk4 (c : Dev nD) (t : Fin cfg0.N) : iblk m c 4 t = V m c main_v3 := by
  funext y
  unfold iblk
  rw [View.read_apply]
  show V m c main_v3 _ = V m c main_v3 y
  exact congrArg _ (funext fun a => Fin.ext (win0_4.rect_emb_val_of_index_zero t a rfl y))

/-- Window 5's block. -/
theorem iblk5 (c : Dev nD) (t : Fin cfg0.N) : iblk m c 5 t = V m c main_v4 := by
  funext y
  unfold iblk
  rw [View.read_apply]
  show V m c main_v4 _ = V m c main_v4 y
  exact congrArg _ (funext fun a => Fin.ext (win0_5.rect_emb_val_of_index_zero t a rfl y))

/-! ## The reshaped arguments -/

/-- Argument 0, reshaped. -/
theorem V_v0 (c : Dev nD) : V m c main_v0 = shapeCast S16384x1280 (m ((c : Thread nD τ).loc main_arg0)) shapeCasts_S4x4096x1280_S16384x1280 := by
  unfold V hostOps0
  after_results
  rfl

/-- Argument 1, reshaped. -/
theorem V_v1 (c : Dev nD) : V m c main_v1 = shapeCast S16384x1 (m ((c : Thread nD τ).loc main_arg1)) shapeCasts_S4x4096x1_S16384x1 := by
  unfold V hostOps0
  after_results
  rfl

/-- Argument 3, reshaped. -/
theorem V_v2 (c : Dev nD) : V m c main_v2 = shapeCast S1x5376 (m ((c : Thread nD τ).loc main_arg3)) shapeCasts_S5376_S1x5376 := by
  unfold V hostOps0
  after_results
  rfl

/-- Argument 4, reshaped. -/
theorem V_v3 (c : Dev nD) : V m c main_v3 = shapeCast S16384x5376 (m ((c : Thread nD τ).loc main_arg4)) shapeCasts_S4x4096x5376_S16384x5376 := by
  unfold V hostOps0
  after_results
  rfl

/-- Argument 5, reshaped. -/
theorem V_v4 (c : Dev nD) : V m c main_v4 = shapeCast S1x5376 (m ((c : Thread nD τ).loc main_arg5)) shapeCasts_S5376_S1x5376 := by
  unfold V hostOps0
  after_results
  rfl

/-! ## The result arrays -/

/-- The sums, from the arguments. -/
def resH (c : Dev nD) : Vec Ideal S16384x5376 .bf16 := Spec.hArr (V m c main_v0) (V m c main_v1) (V m c main_arg2) (V m c main_v2) (V m c main_v3)
/-- The codes. -/
def resC (c : Dev nD) : Vec Ideal S16384x5376 .fp8e4m3 := Spec.cArr (resH m c) (V m c main_v4)
/-- The scales. -/
def resS (c : Dev nD) : Vec Ideal S16384x42 .f32 := Spec.sArr (resH m c) (V m c main_v4)

/-- The one block of window 6 is all of its array. -/
theorem mem6 (i : ((cfg0.win 6).blk pt0).view.ty.Idx) : i ∈ ((cfg0.win 6).blk pt0).view.set := by
  have h := ((cfg0.win 6).blk pt0).view.emb_mem_set i
  have e : ((cfg0.win 6).blk pt0).view.emb i = i := funext fun a => Fin.ext (win0_6.rect_emb_val_of_index_zero _ a rfl i)
  exact (congrArg (· ∈ ((cfg0.win 6).blk pt0).view.set) e).mp h

/-- The array of sums after the run. -/
theorem final6 (c : Dev nD) : (dats m 0 c).arrAt 6 cfg0.N = resH m c := by
  refine (dats m 0 c).arrAt_eq_of_cover 6 (resH m c) (fun t hf => ?_) fun i => ⟨pt0, by decide, ?_⟩
  · show (cfg0.win 6).cut (grid0.coords t) ((dats m 0 c).after 6 t) = _
    rw [after0_6, iblk0, iblk1, iblk2, iblk3, iblk4, iblk5, out6_eq]
    funext y
    rw [View.read_apply]
    show resH m c _ = resH m c _
    refine congrArg _ (funext fun a => Fin.ext ?_)
    exact (win0_6.rect_emb_val_of_index_zero t a rfl y).symm
  · exact mem6 i

/-- The one block of window 7 is all of its array. -/
theorem mem7 (i : ((cfg0.win 7).blk pt0).view.ty.Idx) : i ∈ ((cfg0.win 7).blk pt0).view.set := by
  have h := ((cfg0.win 7).blk pt0).view.emb_mem_set i
  have e : ((cfg0.win 7).blk pt0).view.emb i = i := funext fun a => Fin.ext (win0_7.rect_emb_val_of_index_zero _ a rfl i)
  exact (congrArg (· ∈ ((cfg0.win 7).blk pt0).view.set) e).mp h

/-- The array of codes after the run. -/
theorem final7 (c : Dev nD) : (dats m 0 c).arrAt 7 cfg0.N = resC m c := by
  refine (dats m 0 c).arrAt_eq_of_cover 7 (resC m c) (fun t hf => ?_) fun i => ⟨pt0, by decide, ?_⟩
  · show (cfg0.win 7).cut (grid0.coords t) ((dats m 0 c).after 7 t) = _
    rw [after0_7, iblk0, iblk1, iblk2, iblk3, iblk4, iblk5, out7_eq]
    funext y
    rw [View.read_apply]
    show resC m c _ = resC m c _
    refine congrArg _ (funext fun a => Fin.ext ?_)
    exact (win0_7.rect_emb_val_of_index_zero t a rfl y).symm
  · exact mem7 i

/-- The one block of window 8 is all of its array. -/
theorem mem8 (i : ((cfg0.win 8).blk pt0).view.ty.Idx) : i ∈ ((cfg0.win 8).blk pt0).view.set := by
  have h := ((cfg0.win 8).blk pt0).view.emb_mem_set i
  have e : ((cfg0.win 8).blk pt0).view.emb i = i := funext fun a => Fin.ext (win0_8.rect_emb_val_of_index_zero _ a rfl i)
  exact (congrArg (· ∈ ((cfg0.win 8).blk pt0).view.set) e).mp h

/-- The array of scales after the run. -/
theorem final8 (c : Dev nD) : (dats m 0 c).arrAt 8 cfg0.N = resS m c := by
  refine (dats m 0 c).arrAt_eq_of_cover 8 (resS m c) (fun t hf => ?_) fun i => ⟨pt0, by decide, ?_⟩
  · show (cfg0.win 8).cut (grid0.coords t) ((dats m 0 c).after 8 t) = _
    rw [after0_8, iblk0, iblk1, iblk2, iblk3, iblk4, iblk5, out8_eq]
    funext y
    rw [View.read_apply]
    show resS m c _ = resS m c _
    refine congrArg _ (funext fun a => Fin.ext ?_)
    exact (win0_8.rect_emb_val_of_index_zero t a rfl y).symm
  · exact mem8 i

/-- The run with the result arrays named and the arguments unchanged. -/
theorem run_values : θ_run (defs (F := Ideal)) (onTc (τ := τ) (main (F := Ideal))) ⟨m, fun _ => 0, ρ⟩ (fun r => ∀ c : Dev nD,
      r.2.mem ((c.tc : Thread nD τ).loc main_v5_0) = resH m c
      ∧ r.2.mem ((c.tc : Thread nD τ).loc main_v5_1) = resC m c
      ∧ r.2.mem ((c.tc : Thread nD τ).loc main_v5_2) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final6 m c), ((h.1 c).1 7).trans (final7 m c), ((h.1 c).1 8).trans (final8 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main_quiescent m ρ)

end Cert.ReferenceIdeal.Math

end
-- ==== Proof.Agree.lean ====
/- The idealized kernel and the idealized reference leave the same three arrays. -/
module

public import proofs.«01_k».proof.Defs
public import proofs.«01_k».proof.Proof.KernelValue
public import proofs.«01_k».proof.Proof.RefValue

@[expose] public section

noncomputable section

namespace Cert.Agree

open Idealize.ShloMosaic Idealize.ShloMosaic.TcCoe Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The sums agree where the arguments do. -/
theorem resH_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Math.resH m' c = Cert.KernelIdeal.Run.resH m c := by
  unfold Cert.ReferenceIdeal.Math.resH Cert.KernelIdeal.Run.resH Cert.KernelIdeal.Run.xsCol
  rw [Cert.ReferenceIdeal.Math.V_v0, Cert.ReferenceIdeal.Math.V_v1, Cert.ReferenceIdeal.Math.V_v2, Cert.ReferenceIdeal.Math.V_v3, Cert.ReferenceIdeal.Gen.V_main_arg2,
    Cert.KernelIdeal.Run.V_v0, Cert.KernelIdeal.Run.V_v2, Cert.KernelIdeal.Run.V_v3, Cert.KernelIdeal.Run.V_main_arg2]
  rw [h0, h1, h2, h3, h4]

/-- The norm's factors agree where the arguments do. -/
theorem gam_eq
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.V m' c Cert.ReferenceIdeal.main_v4 : Vec Ideal ⟨2, ![1, 5376]⟩ .bf16) = Cert.KernelIdeal.Run.V m c Cert.KernelIdeal.main_v4 := by
  rw [Cert.ReferenceIdeal.Math.V_v4, Cert.KernelIdeal.Run.V_v4]
  rw [h5]

end

/-- Equal arguments give equal results. -/
theorem algebraic [Cert.KernelIdeal.Facts] [Cert.ReferenceIdeal.Facts] : Cert.algebraic_KernelIdeal_ReferenceIdeal := by
  intro m g m' g' _ h
  refine ⟨fun c => Cert.KernelIdeal.Run.resH m c, fun c => Cert.KernelIdeal.Run.resC m c, fun c => Cert.KernelIdeal.Run.resS m c, Cert.KernelIdeal.Run.run_values m g, ?_⟩
  refine (θ_run Cert.ReferenceIdeal.defs _ _).mono (fun r hr c => ?_) (Cert.ReferenceIdeal.Math.run_values m' g')
  obtain ⟨h0, h1, h2, h3, h4, h5⟩ := h c
  obtain ⟨r0, r1, r2, hargs⟩ := hr c
  have eH := resH_eq m m' c h0 h1 h2 h3 h4
  have eG := gam_eq m m' c h5
  exact ⟨r0.trans eH, r1.trans (congrArg₂ Spec.cArr eH eG), r2.trans (congrArg₂ Spec.sArr eH eG), hargs⟩

end Cert.Agree

end
-- ==== Proof.lean ====
/- The certificate's claims, from the modules under Proof/. -/
module

public import proofs.«01_k».proof.Defs
public import proofs.«01_k».proof.Proof.RunK
public import proofs.«01_k».proof.Proof.RunV
public import proofs.«01_k».proof.Proof.Agree
public import proofs.«01_k».proof.Proof.Gen.ReferenceIdeal
public import proofs.«01_k».proof.Proof.Gen.ReferenceIdeal.Frame

@[expose] public section

open Idealize.ShloMosaic

/-- The claims of the certificate. -/
theorem Cert.Proof.claim : Cert.Claim :=
  ⟨Cert.Kernel.Gen.facts, Cert.KernelIdeal.Gen.facts, Cert.ReferenceIdeal.Gen.facts,
    fun m g _ => Cert.Kernel.Run.frame m g, fun m g _ => Cert.KernelIdeal.Run.frame m g, fun m g _ => Cert.ReferenceIdeal.Gen.frame m g,
    IdealRules.named_const.statement Cert.KernelIdeal.κ "inv_n" .f32 0x39430C31#32 ((1/5376:ℝ):EReal) rfl,
    Cert.Agree.algebraic⟩
